-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x8320 : Shape := ⟨3, ![8, 1, 8320]⟩
abbrev S8320x4864 : Shape := ⟨2, ![8320, 4864]⟩
abbrev S4864 : Shape := ⟨1, ![4864]⟩
abbrev S8x8320 : Shape := ⟨2, ![8, 8320]⟩
abbrev S1x4864 : Shape := ⟨2, ![1, 4864]⟩
abbrev S8x4864 : Shape := ⟨2, ![8, 4864]⟩
abbrev S8x1 : Shape := ⟨2, ![8, 1]⟩
abbrev S17 : Shape := ⟨1, ![17]⟩
abbrev S1 : Shape := ⟨1, ![1]⟩
abbrev S_ : Shape := ⟨0, ![]⟩
abbrev S512x4864 : Shape := ⟨2, ![512, 4864]⟩
abbrev S128x4864 : Shape := ⟨2, ![128, 4864]⟩
abbrev S8 : Shape := ⟨1, ![8]⟩
abbrev S8x256 : Shape := ⟨2, ![8, 256]⟩
abbrev S8x512 : Shape := ⟨2, ![8, 512]⟩
abbrev S8x128 : Shape := ⟨2, ![8, 128]⟩
abbrev S8x1x4864 : Shape := ⟨3, ![8, 1, 4864]⟩
abbrev S8x1x1 : Shape := ⟨3, ![8, 1, 1]⟩

abbrev nBuf : Space → Nat
  | .hbm => 13
  | .vmem => 8
  | .smem => 0
  | _ => 0

abbrev bufTy : (tb : Table) → Fin (tcTables nBuf tb) → BufTy
  | .hbm, ⟨0, _⟩ => ⟨S8x1x8320, .bf16⟩
  | .hbm, ⟨1, _⟩ => ⟨S8320x4864, .fp8e4m3⟩
  | .hbm, ⟨2, _⟩ => ⟨S4864, .f32⟩
  | .hbm, ⟨3, _⟩ => ⟨S4864, .f32⟩
  | .hbm, ⟨4, _⟩ => ⟨S8x8320, .bf16⟩
  | .hbm, ⟨5, _⟩ => ⟨S1x4864, .f32⟩
  | .hbm, ⟨6, _⟩ => ⟨S1x4864, .f32⟩
  | .hbm, ⟨7, _⟩ => ⟨S8x4864, .bf16⟩
  | .hbm, ⟨8, _⟩ => ⟨S8x8320, .fp8e4m3⟩
  | .hbm, ⟨9, _⟩ => ⟨S8x1, .f32⟩
  | .hbm, ⟨10, _⟩ => ⟨S8x1x4864, .bf16⟩
  | .hbm, ⟨11, _⟩ => ⟨S8x1x8320, .fp8e4m3⟩
  | .hbm, ⟨12, _⟩ => ⟨S8x1x1, .f32⟩
  | .local _ .vmem, ⟨0, _⟩ => ⟨S8x8320, .bf16⟩
  | .local _ .vmem, ⟨1, _⟩ => ⟨S1x4864, .f32⟩
  | .local _ .vmem, ⟨2, _⟩ => ⟨S1x4864, .f32⟩
  | .local _ .vmem, ⟨3, _⟩ => ⟨S8x4864, .bf16⟩
  | .local _ .vmem, ⟨4, _⟩ => ⟨S8x8320, .fp8e4m3⟩
  | .local _ .vmem, ⟨5, _⟩ => ⟨S8x1, .f32⟩
  | .local _ .vmem, ⟨6, _⟩ => ⟨S8320x4864, .fp8e4m3⟩
  | .local _ .vmem, ⟨7, _⟩ => ⟨S8x4864, .f32⟩
  | _, _ => ⟨S8x1x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x8320 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4864 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4864 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4864 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8320 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x1x8320 : Shape := ⟨3, ![8, 1, 8320]⟩
abbrev S8320x4864 : Shape := ⟨2, ![8320, 4864]⟩
abbrev S4864 : Shape := ⟨1, ![4864]⟩
abbrev S8x1x4864 : Shape := ⟨3, ![8, 1, 4864]⟩
abbrev S8x1x1 : Shape := ⟨3, ![8, 1, 1]⟩
abbrev S8x1 : Shape := ⟨2, ![8, 1]⟩
abbrev S1x1x4864 : Shape := ⟨3, ![1, 1, 4864]⟩

abbrev nBuf : Space → Nat
  | .hbm => 7
  | .vmem => 7
  | .smem => 0
  | _ => 0

abbrev bufTy : (tb : Table) → Fin (tcTables nBuf tb) → BufTy
  | .hbm, ⟨0, _⟩ => ⟨S8x1x8320, .bf16⟩
  | .hbm, ⟨1, _⟩ => ⟨S8320x4864, .fp8e4m3⟩
  | .hbm, ⟨2, _⟩ => ⟨S4864, .f32⟩
  | .hbm, ⟨3, _⟩ => ⟨S4864, .f32⟩
  | .hbm, ⟨4, _⟩ => ⟨S8x1x4864, .bf16⟩
  | .hbm, ⟨5, _⟩ => ⟨S8x1x8320, .fp8e4m3⟩
  | .hbm, ⟨6, _⟩ => ⟨S8x1x1, .f32⟩
  | .local _ .vmem, ⟨0, _⟩ => ⟨S8x1x8320, .bf16⟩
  | .local _ .vmem, ⟨1, _⟩ => ⟨S8320x4864, .fp8e4m3⟩
  | .local _ .vmem, ⟨2, _⟩ => ⟨S4864, .f32⟩
  | .local _ .vmem, ⟨3, _⟩ => ⟨S4864, .f32⟩
  | .local _ .vmem, ⟨4, _⟩ => ⟨S8x1x4864, .bf16⟩
  | .local _ .vmem, ⟨5, _⟩ => ⟨S8x1x8320, .fp8e4m3⟩
  | .local _ .vmem, ⟨6, _⟩ => ⟨S8x1x1, .f32⟩
  | _, _ => ⟨S8x1x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x1x8320 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8320x4864 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4864 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4864 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x4864 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x8320 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Run.lean ====
/- The run of the body of `proofs.«01_k».proof.Kernel`: seventeen copies of row blocks of the weights are started at once, the
   activations are quantised, and each block is waited for and multiplied in turn. Every copy's block is put back into the
   scratch array across the blocks copied after it, so the run is given a step count and a budget for seventeen of them. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 8000000 in set_option sl_exec.rejoinFuel 64 in set_option sl_exec.rejoinHeartbeats 400000 in set_option sl_exec.dmaWindow true in set_option sl_exec.dmaWindowSet true in
/-- The kernel's body run once, on whole staging buffers: what its stores leave in the three results' buffers (`y`, the codes,
    the scales), in the on-chip copy of the weights and in the accumulator, each as a list of pieces, last first, together with
    the proof that the body runs from the inputs' contents `x0`, `x1`, `x2` and the weights' array `fh0` to those pieces,
    giving back the inputs, the weights' array and the seventeen copy semaphores as they were. The pieces are found by the run. -/
noncomputable def kernelRun0_A (c : Dev nD) (arg0 : Memref sig .tc .vmem S8x8320 .bf16) (harg0 : arg0.IsWhole) (arg2 : Memref sig .tc .vmem S1x4864 .f32) (harg2 : arg2.IsWhole) (arg3 : Memref sig .tc .vmem S1x4864 .f32) (harg3 : arg3.IsWhole) (arg4 : Memref sig .tc .vmem S8x4864 .bf16) (harg4 : arg4.IsWhole) (arg5 : Memref sig .tc .vmem S8x8320 .fp8e4m3) (harg5 : arg5.IsWhole) (arg6 : Memref sig .tc .vmem S8x1 .f32) (harg6 : arg6.IsWhole) (arg7 : Memref sig .tc .vmem S8320x4864 .fp8e4m3) (harg7 : arg7.IsWhole) (arg8 : Memref sig .tc .vmem S8x4864 .f32) (harg8 : arg8.IsWhole)
    (x0 : Vec F S8x8320 .bf16) (x1 : Vec F S1x4864 .f32) (x2 : Vec F S1x4864 .f32) (fh0 : HbBuf0 (F := F) c hbM0_0) :
    Σ' (L3 : List (View.Piece (Elt F) S8x4864 .bf16)), Σ' (L4 : List (View.Piece (Elt F) S8x8320 .fp8e4m3)), Σ' (L5 : List (View.Piece (Elt F) S8x1 .f32)), Σ' (LT0 : List (View.Piece (Elt F) S8320x4864 .fp8e4m3)), { LT1 : List (View.Piece (Elt F) S8x4864 .f32) //
      ∀ (W : Waits sig Unit) (K : PUnit → sProp 𝕄),
        iprop(owns (c : Thread nD τ) arg0 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ owes (c : Thread nD τ) 0 W
            ∗ (iprop(owns (c : Thread nD τ) arg0 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LT0) ∗ (∃ f, arg8.view.loc (c : Thread nD τ) ↦[arg8.view.set]{fullShare} arg8.view.writes (Elt F) f LT1) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ (∃ W', owes (c : Thread nD τ) 0 W')) -∗ K ⟨⟩))
          ⊢ wp frame (wpE (defs₀ (F := F)) Variants.none c none) Set.univ (cc0_w8a8_fp8_linear arg0 harg0 (Memref.whole main_arg1) (Memref.isWhole_whole _) arg2 harg2 arg3 harg3 arg4 harg4 arg5 harg5 arg6 harg6 arg7 harg7 arg8 harg8 cc0_scratch2) K } := by
  refine ⟨?_, ?_, ?_, ?_, ?_, fun W K => ?run⟩
  case run =>
    simp only [cc0_w8a8_fp8_linear_eq_skeleton]; unfold cc0_w8a8_fp8_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hq0, Hq1, Hq2, Hq3, Hq4, Hq5, Hq6, Hq7, Hq8, Hq9, Hq10, Hq11, Hq12, Hq13, Hq14, Hq15, Hq16, Hh0, HW, Hk⟩
    obtain rfl := harg0.eq_unread hf0; obtain rfl := harg2.eq_unread hf1; obtain rfl := harg3.eq_unread hf2
    sl_exec
    sl_step
    iapply Hk
    isplitl [H0]
    · iexists _; isplitr; · ipureintro; exact harg0.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hh0]; · iexact Hh0
    iexists _; iexact HW

end Cert.Kernel.Body

end
-- ==== Proof.Kernel.Frame.lean ====
/- The frame of `proofs.«01_k».proof.Kernel`, over the run of the body in Kernel/Run.lean: what each result's staging buffer holds
   after the body (`out0_A_3`: y, `out0_A_4`: the codes, `out0_A_5`: the scales), the pipeline's proof data (`dats`), the run of
   the whole program (`run_main`) and the frame claim (`frame`). -/
module

public import proofs.«01_k».proof.Proof.Kernel.Run
public import Idealize.ShloMosaic.Lib.Claim

@[expose] public section

-- membership in a rectangle of production extents (`View.cover_of_tiled`): the elaborator's structural look
-- recurses once per coordinate of the long axes
set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The run's pieces for output 3 tile its block (1 store of `S8x4864`, checked by the kernel's evaluation: Lib/Ring.lean `Piece.tiledL`, linear in the pieces, through a loop's `@[irreducible]` trip theorem too), so they cover it. -/
theorem cover0_A_3 (c : Dev nD) (arg0 : Memref sig .tc .vmem S8x8320 .bf16) (harg0 : arg0.IsWhole) (arg2 : Memref sig .tc .vmem S1x4864 .f32) (harg2 : arg2.IsWhole) (arg3 : Memref sig .tc .vmem S1x4864 .f32) (harg3 : arg3.IsWhole) (arg4 : Memref sig .tc .vmem S8x4864 .bf16) (harg4 : arg4.IsWhole) (arg5 : Memref sig .tc .vmem S8x8320 .fp8e4m3) (harg5 : arg5.IsWhole) (arg6 : Memref sig .tc .vmem S8x1 .f32) (harg6 : arg6.IsWhole) (arg7 : Memref sig .tc .vmem S8320x4864 .fp8e4m3) (harg7 : arg7.IsWhole) (arg8 : Memref sig .tc .vmem S8x4864 .f32) (harg8 : arg8.IsWhole)
    (x0 : Vec F S8x8320 .bf16) (x1 : Vec F S1x4864 .f32) (x2 : Vec F S1x4864 .f32) (fh0 : HbBuf0 (F := F) c hbM0_0) (y : S8x4864.Idx) :
    ∃ pc ∈ (kernelRun0_A c arg0 harg0 arg2 harg2 arg3 harg3 arg4 harg4 arg5 harg5 arg6 harg6 arg7 harg7 arg8 harg8 x0 x1 x2 fh0).1, y ∈ pc.1.set :=
  View.cover_of_tiledL (kernelRun0_A c arg0 harg0 arg2 harg2 arg3 harg3 arg4 harg4 arg5 harg5 arg6 harg6 arg7 harg7 arg8 harg8 x0 x1 x2 fh0).1 S8x4864.size (by sl_kernel_rfl) y

/-- What the run leaves in output 3's staging buffer: its pieces read back over junk. -/
def out0_A_3 (c : Dev nD) (arg0 : Memref sig .tc .vmem S8x8320 .bf16) (harg0 : arg0.IsWhole) (arg2 : Memref sig .tc .vmem S1x4864 .f32) (harg2 : arg2.IsWhole) (arg3 : Memref sig .tc .vmem S1x4864 .f32) (harg3 : arg3.IsWhole) (arg4 : Memref sig .tc .vmem S8x4864 .bf16) (harg4 : arg4.IsWhole) (arg5 : Memref sig .tc .vmem S8x8320 .fp8e4m3) (harg5 : arg5.IsWhole) (arg6 : Memref sig .tc .vmem S8x1 .f32) (harg6 : arg6.IsWhole) (arg7 : Memref sig .tc .vmem S8320x4864 .fp8e4m3) (harg7 : arg7.IsWhole) (arg8 : Memref sig .tc .vmem S8x4864 .f32) (harg8 : arg8.IsWhole)
    (x0 : Vec F S8x8320 .bf16) (x1 : Vec F S1x4864 .f32) (x2 : Vec F S1x4864 .f32) (fh0 : HbBuf0 (F := F) c hbM0_0) : Vec F S8x4864 .bf16 :=
  VO0_3.read (Elt F) (VO0_3.writes (Elt F) VO0_3.junk (kernelRun0_A c arg0 harg0 arg2 harg2 arg3 harg3 arg4 harg4 arg5 harg5 arg6 harg6 arg7 harg7 arg8 harg8 x0 x1 x2 fh0).1)

/-- The run's pieces for output 4 tile its block (1 store of `S8x8320`, checked by the kernel's evaluation: Lib/Ring.lean `Piece.tiledL`, linear in the pieces, through a loop's `@[irreducible]` trip theorem too), so they cover it. -/
theorem cover0_A_4 (c : Dev nD) (arg0 : Memref sig .tc .vmem S8x8320 .bf16) (harg0 : arg0.IsWhole) (arg2 : Memref sig .tc .vmem S1x4864 .f32) (harg2 : arg2.IsWhole) (arg3 : Memref sig .tc .vmem S1x4864 .f32) (harg3 : arg3.IsWhole) (arg4 : Memref sig .tc .vmem S8x4864 .bf16) (harg4 : arg4.IsWhole) (arg5 : Memref sig .tc .vmem S8x8320 .fp8e4m3) (harg5 : arg5.IsWhole) (arg6 : Memref sig .tc .vmem S8x1 .f32) (harg6 : arg6.IsWhole) (arg7 : Memref sig .tc .vmem S8320x4864 .fp8e4m3) (harg7 : arg7.IsWhole) (arg8 : Memref sig .tc .vmem S8x4864 .f32) (harg8 : arg8.IsWhole)
    (x0 : Vec F S8x8320 .bf16) (x1 : Vec F S1x4864 .f32) (x2 : Vec F S1x4864 .f32) (fh0 : HbBuf0 (F := F) c hbM0_0) (y : S8x8320.Idx) :
    ∃ pc ∈ (kernelRun0_A c arg0 harg0 arg2 harg2 arg3 harg3 arg4 harg4 arg5 harg5 arg6 harg6 arg7 harg7 arg8 harg8 x0 x1 x2 fh0).2.1, y ∈ pc.1.set :=
  View.cover_of_tiledL (kernelRun0_A c arg0 harg0 arg2 harg2 arg3 harg3 arg4 harg4 arg5 harg5 arg6 harg6 arg7 harg7 arg8 harg8 x0 x1 x2 fh0).2.1 S8x8320.size (by sl_kernel_rfl) y

/-- What the run leaves in output 4's staging buffer: its pieces read back over junk. -/
def out0_A_4 (c : Dev nD) (arg0 : Memref sig .tc .vmem S8x8320 .bf16) (harg0 : arg0.IsWhole) (arg2 : Memref sig .tc .vmem S1x4864 .f32) (harg2 : arg2.IsWhole) (arg3 : Memref sig .tc .vmem S1x4864 .f32) (harg3 : arg3.IsWhole) (arg4 : Memref sig .tc .vmem S8x4864 .bf16) (harg4 : arg4.IsWhole) (arg5 : Memref sig .tc .vmem S8x8320 .fp8e4m3) (harg5 : arg5.IsWhole) (arg6 : Memref sig .tc .vmem S8x1 .f32) (harg6 : arg6.IsWhole) (arg7 : Memref sig .tc .vmem S8320x4864 .fp8e4m3) (harg7 : arg7.IsWhole) (arg8 : Memref sig .tc .vmem S8x4864 .f32) (harg8 : arg8.IsWhole)
    (x0 : Vec F S8x8320 .bf16) (x1 : Vec F S1x4864 .f32) (x2 : Vec F S1x4864 .f32) (fh0 : HbBuf0 (F := F) c hbM0_0) : Vec F S8x8320 .fp8e4m3 :=
  VO0_4.read (Elt F) (VO0_4.writes (Elt F) VO0_4.junk (kernelRun0_A c arg0 harg0 arg2 harg2 arg3 harg3 arg4 harg4 arg5 harg5 arg6 harg6 arg7 harg7 arg8 harg8 x0 x1 x2 fh0).2.1)

/-- The run's pieces for output 5 tile its block (1 store of `S8x1`, checked by the kernel's evaluation: Lib/Ring.lean `Piece.tiledL`, linear in the pieces, through a loop's `@[irreducible]` trip theorem too), so they cover it. -/
theorem cover0_A_5 (c : Dev nD) (arg0 : Memref sig .tc .vmem S8x8320 .bf16) (harg0 : arg0.IsWhole) (arg2 : Memref sig .tc .vmem S1x4864 .f32) (harg2 : arg2.IsWhole) (arg3 : Memref sig .tc .vmem S1x4864 .f32) (harg3 : arg3.IsWhole) (arg4 : Memref sig .tc .vmem S8x4864 .bf16) (harg4 : arg4.IsWhole) (arg5 : Memref sig .tc .vmem S8x8320 .fp8e4m3) (harg5 : arg5.IsWhole) (arg6 : Memref sig .tc .vmem S8x1 .f32) (harg6 : arg6.IsWhole) (arg7 : Memref sig .tc .vmem S8320x4864 .fp8e4m3) (harg7 : arg7.IsWhole) (arg8 : Memref sig .tc .vmem S8x4864 .f32) (harg8 : arg8.IsWhole)
    (x0 : Vec F S8x8320 .bf16) (x1 : Vec F S1x4864 .f32) (x2 : Vec F S1x4864 .f32) (fh0 : HbBuf0 (F := F) c hbM0_0) (y : S8x1.Idx) :
    ∃ pc ∈ (kernelRun0_A c arg0 harg0 arg2 harg2 arg3 harg3 arg4 harg4 arg5 harg5 arg6 harg6 arg7 harg7 arg8 harg8 x0 x1 x2 fh0).2.2.1, y ∈ pc.1.set :=
  View.cover_of_tiledL (kernelRun0_A c arg0 harg0 arg2 harg2 arg3 harg3 arg4 harg4 arg5 harg5 arg6 harg6 arg7 harg7 arg8 harg8 x0 x1 x2 fh0).2.2.1 S8x1.size (by sl_kernel_rfl) y

/-- What the run leaves in output 5's staging buffer: its pieces read back over junk. -/
def out0_A_5 (c : Dev nD) (arg0 : Memref sig .tc .vmem S8x8320 .bf16) (harg0 : arg0.IsWhole) (arg2 : Memref sig .tc .vmem S1x4864 .f32) (harg2 : arg2.IsWhole) (arg3 : Memref sig .tc .vmem S1x4864 .f32) (harg3 : arg3.IsWhole) (arg4 : Memref sig .tc .vmem S8x4864 .bf16) (harg4 : arg4.IsWhole) (arg5 : Memref sig .tc .vmem S8x8320 .fp8e4m3) (harg5 : arg5.IsWhole) (arg6 : Memref sig .tc .vmem S8x1 .f32) (harg6 : arg6.IsWhole) (arg7 : Memref sig .tc .vmem S8320x4864 .fp8e4m3) (harg7 : arg7.IsWhole) (arg8 : Memref sig .tc .vmem S8x4864 .f32) (harg8 : arg8.IsWhole)
    (x0 : Vec F S8x8320 .bf16) (x1 : Vec F S1x4864 .f32) (x2 : Vec F S1x4864 .f32) (fh0 : HbBuf0 (F := F) c hbM0_0) : Vec F S8x1 .f32 :=
  VO0_5.read (Elt F) (VO0_5.writes (Elt F) VO0_5.junk (kernelRun0_A c arg0 harg0 arg2 harg2 arg3 harg3 arg4 harg4 arg5 harg5 arg6 harg6 arg7 harg7 arg8 harg8 x0 x1 x2 fh0).2.2.1)

/-! ## What the outputs hold after each point -/

/-- What the outputs' staging buffers hold after the body at point `t` (as a tuple, in window order): the run's contents at
    the point's memrefs and input blocks. -/
def outsAt0 (c : Dev nD) (t : Fin cfg0.N) : Vec F S8x4864 .bf16 × Vec F S8x8320 .fp8e4m3 × Vec F S8x1 .f32 :=
  (out0_A_3 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (V m c main_arg1), out0_A_4 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (V m c main_arg1), out0_A_5 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (V m c main_arg1))

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t).1
    | ⟨4, _⟩ => (outsAt0 m c t).2.1
    | ⟨5, _⟩ => (outsAt0 m c t).2.2
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t).1 := by dsimp only [dats]
theorem after0_4 (c : Dev nD) (t : Fin cfg0.N) : (dats m 0 c).after 4 t = (outsAt0 m c t).2.1 := by dsimp only [dats]
theorem after0_5 (c : Dev nD) (t : Fin cfg0.N) : (dats m 0 c).after 5 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    after0_0, after0_1, after0_2, after0_3, after0_4, after0_5]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outsAt0
  unfold out0_A_3 out0_A_4 out0_A_5; (try dsimp only)
  iintro ⟨⟨⟨HS0, HS1⟩, Hg, ⟨Hq0, Hq1, Hq2, Hq3, Hq4, Hq5, Hq6, Hq7, Hq8, Hq9, Hq10, Hq11, Hq12, Hq13, Hq14, Hq15, Hq16⟩, Hh0⟩, ⟨%W, -, HW⟩, ⟨%d0, H0⟩, ⟨%d1, H1⟩, ⟨%d2, H2⟩, ⟨%d3, H3⟩, ⟨%d4, H4⟩, ⟨%d5, H5⟩⟩
  iapply ((kernelRun0_A c _ _ _ _ _ _ _ _ _ _ _ _ _ _ _ _ (iblk m c 0 t) (iblk m c 1 t) (iblk m c 2 t) (V m c main_arg1)).2.2.2.2.2 W _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hh0]; · iexact Hh0
  isplitl [HW]; · iexact HW
  iintro ⟨H0, H1, H2, ⟨%e3, H3⟩, ⟨%e4, H4⟩, ⟨%e5, H5⟩, ⟨%fT0, HS0⟩, ⟨%fT1, HS1⟩, Hq0, Hq1, Hq2, Hq3, Hq4, Hq5, Hq6, Hq7, Hq8, Hq9, Hq10, Hq11, Hq12, Hq13, Hq14, Hq15, Hq16, Hh0, ⟨%W', HW'⟩⟩
  isplitl [HS0 HS1 Hg Hq0 Hq1 Hq2 Hq3 Hq4 Hq5 Hq6 Hq7 Hq8 Hq9 Hq10 Hq11 Hq12 Hq13 Hq14 Hq15 Hq16 Hh0]
  · isplitl [HS0 HS1]
    · isplitl [HS0]
      · iexists _; unfold owns; iexists _; isplitr
        swap; · iexact HS0
        ipureintro; rfl
      iexists _; unfold owns; iexists _; isplitr
      swap; · iexact HS1
      ipureintro; rfl
    isplitl [Hg]
    · iexact Hg
    isplitl [Hq0 Hq1 Hq2 Hq3 Hq4 Hq5 Hq6 Hq7 Hq8 Hq9 Hq10 Hq11 Hq12 Hq13 Hq14 Hq15 Hq16]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      iexact Hq16
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _ _ _ _)
  unfold owns; iexists _; isplitr
  swap; · iexact H5
  ipureintro; exact View.read_writes_of_cover _ _ _ _ _ (cover0_A_5 c _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_dma_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := fun _ => .rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_Kernel`'s statement (Defs.lean) at any `F` (Defs.lean). -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Body

end
-- ==== Proof.KernelIdeal.Run.lean ====
/- The run of the body of `proofs.«01_k».proof.KernelIdeal`: seventeen copies of row blocks of the weights are started at once, the
   activations are quantised, and each block is waited for and multiplied in turn. Every copy's block is put back into the
   scratch array across the blocks copied after it, so the run is given a step count and a budget for seventeen of them. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 8000000 in set_option sl_exec.rejoinFuel 64 in set_option sl_exec.rejoinHeartbeats 400000 in set_option sl_exec.dmaWindow true in set_option sl_exec.dmaWindowSet true in
/-- The kernel's body run once, on whole staging buffers: what its stores leave in the three results' buffers (`y`, the codes,
    the scales), in the on-chip copy of the weights and in the accumulator, each as a list of pieces, last first, together with
    the proof that the body runs from the inputs' contents `x0`, `x1`, `x2` and the weights' array `fh0` to those pieces,
    giving back the inputs, the weights' array and the seventeen copy semaphores as they were. The pieces are found by the run. -/
noncomputable def kernelRun0_A (c : Dev nD) (arg0 : Memref sig .tc .vmem S8x8320 .bf16) (harg0 : arg0.IsWhole) (arg2 : Memref sig .tc .vmem S1x4864 .f32) (harg2 : arg2.IsWhole) (arg3 : Memref sig .tc .vmem S1x4864 .f32) (harg3 : arg3.IsWhole) (arg4 : Memref sig .tc .vmem S8x4864 .bf16) (harg4 : arg4.IsWhole) (arg5 : Memref sig .tc .vmem S8x8320 .fp8e4m3) (harg5 : arg5.IsWhole) (arg6 : Memref sig .tc .vmem S8x1 .f32) (harg6 : arg6.IsWhole) (arg7 : Memref sig .tc .vmem S8320x4864 .fp8e4m3) (harg7 : arg7.IsWhole) (arg8 : Memref sig .tc .vmem S8x4864 .f32) (harg8 : arg8.IsWhole)
    (x0 : Vec F S8x8320 .bf16) (x1 : Vec F S1x4864 .f32) (x2 : Vec F S1x4864 .f32) (fh0 : HbBuf0 (F := F) c hbM0_0) :
    Σ' (L3 : List (View.Piece (Elt F) S8x4864 .bf16)), Σ' (L4 : List (View.Piece (Elt F) S8x8320 .fp8e4m3)), Σ' (L5 : List (View.Piece (Elt F) S8x1 .f32)), Σ' (LT0 : List (View.Piece (Elt F) S8320x4864 .fp8e4m3)), { LT1 : List (View.Piece (Elt F) S8x4864 .f32) //
      ∀ (W : Waits sig Unit) (K : PUnit → sProp 𝕄),
        iprop(owns (c : Thread nD τ) arg0 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ owes (c : Thread nD τ) 0 W
            ∗ (iprop(owns (c : Thread nD τ) arg0 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LT0) ∗ (∃ f, arg8.view.loc (c : Thread nD τ) ↦[arg8.view.set]{fullShare} arg8.view.writes (Elt F) f LT1) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ (∃ W', owes (c : Thread nD τ) 0 W')) -∗ K ⟨⟩))
          ⊢ wp frame (wpE (defs₀ (F := F)) Variants.none c none) Set.univ (cc0_w8a8_fp8_linear arg0 harg0 (Memref.whole main_arg1) (Memref.isWhole_whole _) arg2 harg2 arg3 harg3 arg4 harg4 arg5 harg5 arg6 harg6 arg7 harg7 arg8 harg8 cc0_scratch2) K } := by
  refine ⟨?_, ?_, ?_, ?_, ?_, fun W K => ?run⟩
  case run =>
    simp only [cc0_w8a8_fp8_linear_eq_skeleton]; unfold cc0_w8a8_fp8_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hq0, Hq1, Hq2, Hq3, Hq4, Hq5, Hq6, Hq7, Hq8, Hq9, Hq10, Hq11, Hq12, Hq13, Hq14, Hq15, Hq16, Hh0, HW, Hk⟩
    obtain rfl := harg0.eq_unread hf0; obtain rfl := harg2.eq_unread hf1; obtain rfl := harg3.eq_unread hf2
    sl_exec
    sl_step
    iapply Hk
    isplitl [H0]
    · iexists _; isplitr; · ipureintro; exact harg0.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hh0]; · iexact Hh0
    iexists _; iexact HW

end Cert.KernelIdeal.Body

end
-- ==== Proof.KernelIdeal.Frame.lean ====
/- The frame of `proofs.«01_k».proof.KernelIdeal`, over the run of the body in KernelIdeal/Run.lean: what each result's staging buffer holds
   after the body (`out0_A_3`: y, `out0_A_4`: the codes, `out0_A_5`: the scales), the pipeline's proof data (`dats`), the run of
   the whole program (`run_main`) and the frame claim (`frame`). -/
module

public import proofs.«01_k».proof.Proof.KernelIdeal.Run
public import Idealize.ShloMosaic.Lib.Claim

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The run's pieces for output 3 tile its block (1 store of `S8x4864`, checked by the kernel's evaluation: Lib/Ring.lean `Piece.tiledL`, linear in the pieces, through a loop's `@[irreducible]` trip theorem too), so they cover it. -/
theorem cover0_A_3 (c : Dev nD) (arg0 : Memref sig .tc .vmem S8x8320 .bf16) (harg0 : arg0.IsWhole) (arg2 : Memref sig .tc .vmem S1x4864 .f32) (harg2 : arg2.IsWhole) (arg3 : Memref sig .tc .vmem S1x4864 .f32) (harg3 : arg3.IsWhole) (arg4 : Memref sig .tc .vmem S8x4864 .bf16) (harg4 : arg4.IsWhole) (arg5 : Memref sig .tc .vmem S8x8320 .fp8e4m3) (harg5 : arg5.IsWhole) (arg6 : Memref sig .tc .vmem S8x1 .f32) (harg6 : arg6.IsWhole) (arg7 : Memref sig .tc .vmem S8320x4864 .fp8e4m3) (harg7 : arg7.IsWhole) (arg8 : Memref sig .tc .vmem S8x4864 .f32) (harg8 : arg8.IsWhole)
    (x0 : Vec F S8x8320 .bf16) (x1 : Vec F S1x4864 .f32) (x2 : Vec F S1x4864 .f32) (fh0 : HbBuf0 (F := F) c hbM0_0) (y : S8x4864.Idx) :
    ∃ pc ∈ (kernelRun0_A c arg0 harg0 arg2 harg2 arg3 harg3 arg4 harg4 arg5 harg5 arg6 harg6 arg7 harg7 arg8 harg8 x0 x1 x2 fh0).1, y ∈ pc.1.set :=
  View.cover_of_tiledL (kernelRun0_A c arg0 harg0 arg2 harg2 arg3 harg3 arg4 harg4 arg5 harg5 arg6 harg6 arg7 harg7 arg8 harg8 x0 x1 x2 fh0).1 S8x4864.size (by sl_kernel_rfl) y

/-- What the run leaves in output 3's staging buffer: its pieces read back over junk. -/
def out0_A_3 (c : Dev nD) (arg0 : Memref sig .tc .vmem S8x8320 .bf16) (harg0 : arg0.IsWhole) (arg2 : Memref sig .tc .vmem S1x4864 .f32) (harg2 : arg2.IsWhole) (arg3 : Memref sig .tc .vmem S1x4864 .f32) (harg3 : arg3.IsWhole) (arg4 : Memref sig .tc .vmem S8x4864 .bf16) (harg4 : arg4.IsWhole) (arg5 : Memref sig .tc .vmem S8x8320 .fp8e4m3) (harg5 : arg5.IsWhole) (arg6 : Memref sig .tc .vmem S8x1 .f32) (harg6 : arg6.IsWhole) (arg7 : Memref sig .tc .vmem S8320x4864 .fp8e4m3) (harg7 : arg7.IsWhole) (arg8 : Memref sig .tc .vmem S8x4864 .f32) (harg8 : arg8.IsWhole)
    (x0 : Vec F S8x8320 .bf16) (x1 : Vec F S1x4864 .f32) (x2 : Vec F S1x4864 .f32) (fh0 : HbBuf0 (F := F) c hbM0_0) : Vec F S8x4864 .bf16 :=
  VO0_3.read (Elt F) (VO0_3.writes (Elt F) VO0_3.junk (kernelRun0_A c arg0 harg0 arg2 harg2 arg3 harg3 arg4 harg4 arg5 harg5 arg6 harg6 arg7 harg7 arg8 harg8 x0 x1 x2 fh0).1)

/-- The run's pieces for output 4 tile its block (1 store of `S8x8320`, checked by the kernel's evaluation: Lib/Ring.lean `Piece.tiledL`, linear in the pieces, through a loop's `@[irreducible]` trip theorem too), so they cover it. -/
theorem cover0_A_4 (c : Dev nD) (arg0 : Memref sig .tc .vmem S8x8320 .bf16) (harg0 : arg0.IsWhole) (arg2 : Memref sig .tc .vmem S1x4864 .f32) (harg2 : arg2.IsWhole) (arg3 : Memref sig .tc .vmem S1x4864 .f32) (harg3 : arg3.IsWhole) (arg4 : Memref sig .tc .vmem S8x4864 .bf16) (harg4 : arg4.IsWhole) (arg5 : Memref sig .tc .vmem S8x8320 .fp8e4m3) (harg5 : arg5.IsWhole) (arg6 : Memref sig .tc .vmem S8x1 .f32) (harg6 : arg6.IsWhole) (arg7 : Memref sig .tc .vmem S8320x4864 .fp8e4m3) (harg7 : arg7.IsWhole) (arg8 : Memref sig .tc .vmem S8x4864 .f32) (harg8 : arg8.IsWhole)
    (x0 : Vec F S8x8320 .bf16) (x1 : Vec F S1x4864 .f32) (x2 : Vec F S1x4864 .f32) (fh0 : HbBuf0 (F := F) c hbM0_0) (y : S8x8320.Idx) :
    ∃ pc ∈ (kernelRun0_A c arg0 harg0 arg2 harg2 arg3 harg3 arg4 harg4 arg5 harg5 arg6 harg6 arg7 harg7 arg8 harg8 x0 x1 x2 fh0).2.1, y ∈ pc.1.set :=
  View.cover_of_tiledL (kernelRun0_A c arg0 harg0 arg2 harg2 arg3 harg3 arg4 harg4 arg5 harg5 arg6 harg6 arg7 harg7 arg8 harg8 x0 x1 x2 fh0).2.1 S8x8320.size (by sl_kernel_rfl) y

/-- What the run leaves in output 4's staging buffer: its pieces read back over junk. -/
def out0_A_4 (c : Dev nD) (arg0 : Memref sig .tc .vmem S8x8320 .bf16) (harg0 : arg0.IsWhole) (arg2 : Memref sig .tc .vmem S1x4864 .f32) (harg2 : arg2.IsWhole) (arg3 : Memref sig .tc .vmem S1x4864 .f32) (harg3 : arg3.IsWhole) (arg4 : Memref sig .tc .vmem S8x4864 .bf16) (harg4 : arg4.IsWhole) (arg5 : Memref sig .tc .vmem S8x8320 .fp8e4m3) (harg5 : arg5.IsWhole) (arg6 : Memref sig .tc .vmem S8x1 .f32) (harg6 : arg6.IsWhole) (arg7 : Memref sig .tc .vmem S8320x4864 .fp8e4m3) (harg7 : arg7.IsWhole) (arg8 : Memref sig .tc .vmem S8x4864 .f32) (harg8 : arg8.IsWhole)
    (x0 : Vec F S8x8320 .bf16) (x1 : Vec F S1x4864 .f32) (x2 : Vec F S1x4864 .f32) (fh0 : HbBuf0 (F := F) c hbM0_0) : Vec F S8x8320 .fp8e4m3 :=
  VO0_4.read (Elt F) (VO0_4.writes (Elt F) VO0_4.junk (kernelRun0_A c arg0 harg0 arg2 harg2 arg3 harg3 arg4 harg4 arg5 harg5 arg6 harg6 arg7 harg7 arg8 harg8 x0 x1 x2 fh0).2.1)

/-- The run's pieces for output 5 tile its block (1 store of `S8x1`, checked by the kernel's evaluation: Lib/Ring.lean `Piece.tiledL`, linear in the pieces, through a loop's `@[irreducible]` trip theorem too), so they cover it. -/
theorem cover0_A_5 (c : Dev nD) (arg0 : Memref sig .tc .vmem S8x8320 .bf16) (harg0 : arg0.IsWhole) (arg2 : Memref sig .tc .vmem S1x4864 .f32) (harg2 : arg2.IsWhole) (arg3 : Memref sig .tc .vmem S1x4864 .f32) (harg3 : arg3.IsWhole) (arg4 : Memref sig .tc .vmem S8x4864 .bf16) (harg4 : arg4.IsWhole) (arg5 : Memref sig .tc .vmem S8x8320 .fp8e4m3) (harg5 : arg5.IsWhole) (arg6 : Memref sig .tc .vmem S8x1 .f32) (harg6 : arg6.IsWhole) (arg7 : Memref sig .tc .vmem S8320x4864 .fp8e4m3) (harg7 : arg7.IsWhole) (arg8 : Memref sig .tc .vmem S8x4864 .f32) (harg8 : arg8.IsWhole)
    (x0 : Vec F S8x8320 .bf16) (x1 : Vec F S1x4864 .f32) (x2 : Vec F S1x4864 .f32) (fh0 : HbBuf0 (F := F) c hbM0_0) (y : S8x1.Idx) :
    ∃ pc ∈ (kernelRun0_A c arg0 harg0 arg2 harg2 arg3 harg3 arg4 harg4 arg5 harg5 arg6 harg6 arg7 harg7 arg8 harg8 x0 x1 x2 fh0).2.2.1, y ∈ pc.1.set :=
  View.cover_of_tiledL (kernelRun0_A c arg0 harg0 arg2 harg2 arg3 harg3 arg4 harg4 arg5 harg5 arg6 harg6 arg7 harg7 arg8 harg8 x0 x1 x2 fh0).2.2.1 S8x1.size (by sl_kernel_rfl) y

/-- What the run leaves in output 5's staging buffer: its pieces read back over junk. -/
def out0_A_5 (c : Dev nD) (arg0 : Memref sig .tc .vmem S8x8320 .bf16) (harg0 : arg0.IsWhole) (arg2 : Memref sig .tc .vmem S1x4864 .f32) (harg2 : arg2.IsWhole) (arg3 : Memref sig .tc .vmem S1x4864 .f32) (harg3 : arg3.IsWhole) (arg4 : Memref sig .tc .vmem S8x4864 .bf16) (harg4 : arg4.IsWhole) (arg5 : Memref sig .tc .vmem S8x8320 .fp8e4m3) (harg5 : arg5.IsWhole) (arg6 : Memref sig .tc .vmem S8x1 .f32) (harg6 : arg6.IsWhole) (arg7 : Memref sig .tc .vmem S8320x4864 .fp8e4m3) (harg7 : arg7.IsWhole) (arg8 : Memref sig .tc .vmem S8x4864 .f32) (harg8 : arg8.IsWhole)
    (x0 : Vec F S8x8320 .bf16) (x1 : Vec F S1x4864 .f32) (x2 : Vec F S1x4864 .f32) (fh0 : HbBuf0 (F := F) c hbM0_0) : Vec F S8x1 .f32 :=
  VO0_5.read (Elt F) (VO0_5.writes (Elt F) VO0_5.junk (kernelRun0_A c arg0 harg0 arg2 harg2 arg3 harg3 arg4 harg4 arg5 harg5 arg6 harg6 arg7 harg7 arg8 harg8 x0 x1 x2 fh0).2.2.1)

/-! ## What the outputs hold after each point -/

/-- What the outputs' staging buffers hold after the body at point `t` (as a tuple, in window order): the run's contents at
    the point's memrefs and input blocks. -/
def outsAt0 (c : Dev nD) (t : Fin cfg0.N) : Vec F S8x4864 .bf16 × Vec F S8x8320 .fp8e4m3 × Vec F S8x1 .f32 :=
  (out0_A_3 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (V m c main_arg1), out0_A_4 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (V m c main_arg1), out0_A_5 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (V m c main_arg1))

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t).1
    | ⟨4, _⟩ => (outsAt0 m c t).2.1
    | ⟨5, _⟩ => (outsAt0 m c t).2.2
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t).1 := by dsimp only [dats]
theorem after0_4 (c : Dev nD) (t : Fin cfg0.N) : (dats m 0 c).after 4 t = (outsAt0 m c t).2.1 := by dsimp only [dats]
theorem after0_5 (c : Dev nD) (t : Fin cfg0.N) : (dats m 0 c).after 5 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    after0_0, after0_1, after0_2, after0_3, after0_4, after0_5]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outsAt0
  unfold out0_A_3 out0_A_4 out0_A_5; (try dsimp only)
  iintro ⟨⟨⟨HS0, HS1⟩, Hg, ⟨Hq0, Hq1, Hq2, Hq3, Hq4, Hq5, Hq6, Hq7, Hq8, Hq9, Hq10, Hq11, Hq12, Hq13, Hq14, Hq15, Hq16⟩, Hh0⟩, ⟨%W, -, HW⟩, ⟨%d0, H0⟩, ⟨%d1, H1⟩, ⟨%d2, H2⟩, ⟨%d3, H3⟩, ⟨%d4, H4⟩, ⟨%d5, H5⟩⟩
  iapply ((kernelRun0_A c _ _ _ _ _ _ _ _ _ _ _ _ _ _ _ _ (iblk m c 0 t) (iblk m c 1 t) (iblk m c 2 t) (V m c main_arg1)).2.2.2.2.2 W _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hh0]; · iexact Hh0
  isplitl [HW]; · iexact HW
  iintro ⟨H0, H1, H2, ⟨%e3, H3⟩, ⟨%e4, H4⟩, ⟨%e5, H5⟩, ⟨%fT0, HS0⟩, ⟨%fT1, HS1⟩, Hq0, Hq1, Hq2, Hq3, Hq4, Hq5, Hq6, Hq7, Hq8, Hq9, Hq10, Hq11, Hq12, Hq13, Hq14, Hq15, Hq16, Hh0, ⟨%W', HW'⟩⟩
  isplitl [HS0 HS1 Hg Hq0 Hq1 Hq2 Hq3 Hq4 Hq5 Hq6 Hq7 Hq8 Hq9 Hq10 Hq11 Hq12 Hq13 Hq14 Hq15 Hq16 Hh0]
  · isplitl [HS0 HS1]
    · isplitl [HS0]
      · iexists _; unfold owns; iexists _; isplitr
        swap; · iexact HS0
        ipureintro; rfl
      iexists _; unfold owns; iexists _; isplitr
      swap; · iexact HS1
      ipureintro; rfl
    isplitl [Hg]
    · iexact Hg
    isplitl [Hq0 Hq1 Hq2 Hq3 Hq4 Hq5 Hq6 Hq7 Hq8 Hq9 Hq10 Hq11 Hq12 Hq13 Hq14 Hq15 Hq16]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      iexact Hq16
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _ _ _ _)
  unfold owns; iexists _; isplitr
  swap; · iexact H5
  ipureintro; exact View.read_writes_of_cover _ _ _ _ _ (cover0_A_5 c _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_dma_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := fun _ => .rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` (Defs.lean). -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Body

end
-- ==== Proof.Exponent.lean ====
/- The power of two of the quantiser, over the extended reals. The kernel finds the exponent of the least power of two above
   `v` by counting the powers of two not above `v` among 256 lanes (the words `n << 23` read as floats); the reference takes the
   logarithm. `exponent_agree` says that the two are the same integer, between -125 and 126, for every extended real `v`;
   `power_word` says that the word the kernel then builds from that integer reads as that power of two. -/
module

public import Idealize.ShloMosaic.PureOps.Ideal
public import Idealize.ShloMosaic.PureOps.Ideal.Laws
public import Idealize.ShloMosaic.Lib.IdealHost
public import Idealize.ShloMosaic.Lib.IndicatorCount

@[expose] public section

set_option maxRecDepth 16384

noncomputable section

namespace Cert.Exponent

open Idealize.ShloMosaic

/-- The word `n << 23` has sign bit 0, exponent field `n` and fraction field 0. -/
theorem word_fields : ∀ n : Fin 256,
    ((IntOp.shli .vector (BitVec.ofNat 32 n.val) 23#32).extractLsb' 31 1 == 1#1) = false
    ∧ ((IntOp.shli .vector (BitVec.ofNat 32 n.val) 23#32).extractLsb' 23 8).toNat = n.val
    ∧ ((IntOp.shli .vector (BitVec.ofNat 32 n.val) 23#32).extractLsb' 0 23).toNat = 0 := by
  decide +kernel

/-- A 32-bit pattern with sign bit 0, exponent field `n` and fraction field 0 reads as zero, a power of two, or infinity. -/
theorem ofBits_of_fields (b : BitVec 32) (n : ℕ) (h1 : (b.extractLsb' 31 1 == 1#1) = false)
    (h2 : (b.extractLsb' 23 8).toNat = n) (h3 : (b.extractLsb' 0 23).toNat = 0) :
    Ideal.ofBits .f32 b = if n = 255 then ⊤ else if n = 0 then 0 else (((2 : ℝ) ^ ((n : ℤ) - 127) : ℝ) : EReal) := by
  show Ideal.ieee 8 23 b = _
  unfold Ideal.ieee
  dsimp only
  rw [show (8 + 23 : ℕ) = 31 from rfl, h1, h2, h3]
  by_cases h255 : n = 255
  · simp [h255]
  by_cases h0 : n = 0
  · simp [h0]
  rw [if_neg (by omega), if_neg h0, if_neg h255, if_neg h0]
  refine congrArg _ ?_
  rw [show ((n : ℤ) - (2 ^ (8 - 1) - 1) - ((23 : ℕ) : ℤ)) = ((n : ℤ) - 127) + (-23) by norm_num; ring, zpow_add₀ (by norm_num)]
  rw [show ((2 : ℝ) ^ (-23 : ℤ)) = 1 / 8388608 by norm_num]
  norm_num
  ring

/-- What lane `n` is compared with: the word `n << 23` read as a float. -/
def lane (n : ℕ) : EReal := Ideal.ofBits .f32 (IntOp.shli .vector (BitVec.ofNat 32 n) 23#32)

theorem lane_eq (n : ℕ) (h : n < 256) :
    lane n = if n = 255 then ⊤ else if n = 0 then 0 else (((2 : ℝ) ^ ((n : ℤ) - 127) : ℝ) : EReal) :=
  ofBits_of_fields _ n (word_fields ⟨n, h⟩).1 (word_fields ⟨n, h⟩).2.1 (word_fields ⟨n, h⟩).2.2

/-- Lane 0 is zero. -/
theorem lane_zero : lane 0 = 0 := by
  rw [lane_eq 0 (by norm_num)]; simp

/-- Lanes 1 to 254 are the powers of two from `2 ^ -126` to `2 ^ 127`. -/
theorem lane_pos (n : ℕ) (h : 1 ≤ n) (h' : n ≤ 254) : lane n = (((2 : ℝ) ^ ((n : ℤ) - 127) : ℝ) : EReal) := by
  rw [lane_eq n (by omega), if_neg (by omega), if_neg (by omega)]

/-- Lane 255 is the infinity. -/
theorem lane_last : lane 255 = ⊤ := by
  rw [lane_eq 255 (by norm_num)]; simp

/-- The lanes increase. -/
theorem lane_mono {a b : ℕ} (h : a ≤ b) (hb : b ≤ 255) : lane a ≤ lane b := by
  rcases Nat.eq_zero_or_pos a with rfl | ha
  · rcases Nat.eq_zero_or_pos b with rfl | hb0
    · exact le_rfl
    · rw [lane_zero]
      rcases Nat.lt_or_ge 254 b with h2 | h2
      · obtain rfl : b = 255 := by omega
        rw [lane_last]; exact le_top
      · rw [lane_pos b hb0 h2]; exact EReal.coe_nonneg.mpr (zpow_pos (by norm_num : (0 : ℝ) < 2) _).le
  · rcases Nat.lt_or_ge 254 b with h2 | h2
    · obtain rfl : b = 255 := by omega
      rw [lane_last]; exact le_top
    · rw [lane_pos a ha (by omega), lane_pos b (by omega) h2]
      exact EReal.coe_le_coe_iff.mpr (zpow_le_zpow_right₀ (by norm_num : (1 : ℝ) ≤ 2) (by omega))

/-- How many lanes are not above `v`, as the kernel counts them. -/
def count (v : EReal) : BitVec 32 :=
  Finset.fold IntOp.addi (0#32)
    (fun x : Fin 256 => BitVec.setWidth 32 (BitVec.ofBool (decide (lane x.val ≤ v)))) Finset.univ

/-- The count is the number of such lanes. -/
theorem count_eq (v : EReal) : count v = BitVec.ofNat 32 (Finset.univ.filter fun x : Fin 256 => lane x.val ≤ v).card := by
  unfold count
  rw [IndicatorCount.fold_addi_setWidth_eq_card (fun x : Fin 256 => BitVec.ofBool (decide (lane x.val ≤ v)))]
  congr 2
  ext x
  by_cases h : lane x.val ≤ v <;> simp [h]

/-- The exponent the kernel takes from a count `c`: `c - 127`, and 0 where `v` is below the normal range or far above it. -/
def ofCount (c : BitVec 32) : BitVec 32 :=
  Scalar.select (IntOp.ori (IntOp.cmpi .sle c 1#32) (IntOp.cmpi .sge c 254#32)) (0#32) (IntOp.subi c 127#32)

theorem ofCount_eq : ∀ c : Fin 257, ofCount (BitVec.ofNat 32 c.val)
    = if c.val ≤ 1 ∨ 254 ≤ c.val then BitVec.ofInt 32 0 else BitVec.ofInt 32 ((c.val : ℤ) - 127) := by
  decide +kernel

/-- The exponent as the reference takes it: `⌊log v / log 2⌋ + 1` in the range `[2 ^ -126, 2 ^ 126)`, else 0. -/
def logExponent (v : EReal) : EReal :=
  Scalar.select
    (IntOp.andi (BitVec.ofBool (decide (Ideal.ofBits .f32 8388608#32 ≤ v)))
      (BitVec.ofBool (decide (v < Ideal.ofBits .f32 2122317824#32))))
    (Ideal.liftRound Int.floor (Ideal.div (Ideal.log v) (Ideal.log (Ideal.ofBits .f32 1073741824#32))) + 1) 0

theorem two_word : Ideal.ofBits .f32 1073741824#32 = ((2 : ℝ) : EReal) := by
  rw [ofBits_of_fields 1073741824#32 128 (by decide +kernel) (by decide +kernel) (by decide +kernel), if_neg (by norm_num), if_neg (by norm_num)]
  norm_num

theorem low_word : Ideal.ofBits .f32 8388608#32 = (((2 : ℝ) ^ (-126 : ℤ) : ℝ) : EReal) := by
  rw [ofBits_of_fields 8388608#32 1 (by decide +kernel) (by decide +kernel) (by decide +kernel), if_neg (by norm_num), if_neg (by norm_num)]
  norm_num

theorem high_word : Ideal.ofBits .f32 2122317824#32 = (((2 : ℝ) ^ (126 : ℤ) : ℝ) : EReal) := by
  rw [ofBits_of_fields 2122317824#32 253 (by decide +kernel) (by decide +kernel) (by decide +kernel), if_neg (by norm_num), if_neg (by norm_num)]
  norm_num

/-- The reference's exponent: 0 outside the range, and inside it the integer `n + 1` with `2 ^ n ≤ v < 2 ^ (n + 1)`. -/
theorem logExponent_cases (v : EReal) :
    (v < (((2 : ℝ) ^ (-126 : ℤ) : ℝ) : EReal) ∧ logExponent v = 0)
    ∨ ((((2 : ℝ) ^ (126 : ℤ) : ℝ) : EReal) ≤ v ∧ logExponent v = 0)
    ∨ ∃ n : ℤ, -126 ≤ n ∧ n ≤ 125 ∧ (((2 : ℝ) ^ n : ℝ) : EReal) ≤ v ∧ v < (((2 : ℝ) ^ (n + 1) : ℝ) : EReal)
        ∧ logExponent v = (((n + 1 : ℤ) : ℝ) : EReal) := by
  rcases lt_or_ge v (((2 : ℝ) ^ (-126 : ℤ) : ℝ) : EReal) with hlo | hlo
  · refine Or.inl ⟨hlo, ?_⟩
    unfold logExponent
    rw [low_word, high_word, decide_eq_false (not_le.mpr hlo)]
    cases decide (v < (((2 : ℝ) ^ (126 : ℤ) : ℝ) : EReal)) <;> rfl
  rcases le_or_gt (((2 : ℝ) ^ (126 : ℤ) : ℝ) : EReal) v with hhi | hhi
  · refine Or.inr (Or.inl ⟨hhi, ?_⟩)
    unfold logExponent
    rw [low_word, high_word, decide_eq_true hlo, decide_eq_false (not_lt.mpr hhi)]
    rfl
  refine Or.inr (Or.inr ?_)
  induction v using EReal.rec with
  | bot => exact absurd hlo (by simp)
  | top => exact absurd hhi (by simp)
  | coe r =>
    have hlo' : (2 : ℝ) ^ (-126 : ℤ) ≤ r := by exact_mod_cast hlo
    have hhi' : r < (2 : ℝ) ^ (126 : ℤ) := by exact_mod_cast hhi
    have hr : 0 < r := lt_of_lt_of_le (by positivity) hlo'
    have hl2 : 0 < Real.log 2 := Real.log_pos (by norm_num)
    have key : ∀ k : ℤ, ((k : ℝ) ≤ Real.log r / Real.log 2 ↔ (2 : ℝ) ^ k ≤ r) := fun k => by
      rw [le_div_iff₀ hl2, ← Real.log_zpow, Real.log_le_log_iff (by positivity) hr]
    refine ⟨⌊Real.log r / Real.log 2⌋, ?_, ?_, ?_, ?_, ?_⟩
    · exact Int.le_floor.mpr ((key _).mpr hlo')
    · have : ⌊Real.log r / Real.log 2⌋ < 126 := Int.floor_lt.mpr (not_le.mp fun h => not_le.mpr hhi' ((key 126).mp (by exact_mod_cast h)))
      omega
    · exact_mod_cast (key _).mp (Int.floor_le _)
    · have : r < (2 : ℝ) ^ (⌊Real.log r / Real.log 2⌋ + 1) :=
        not_le.mp fun h => not_le.mpr (Int.lt_floor_add_one (Real.log r / Real.log 2)) (by exact_mod_cast (key _).mpr h)
      exact_mod_cast this
    · unfold logExponent
      rw [low_word, high_word, two_word, decide_eq_true hlo, decide_eq_true hhi, Ideal.log_coe, Ideal.log_coe,
        if_neg (not_le.mpr hr), if_neg (by norm_num), Ideal.div_coe hl2.ne']
      show Ideal.liftRound Int.floor (((Real.log r : ℝ) : EReal) * ((1 / Real.log 2 : ℝ) : EReal)) + 1 = _
      rw [← EReal.coe_mul, mul_one_div]
      show (((⌊Real.log r / Real.log 2⌋ : ℤ) : ℝ) : EReal) + 1 = _
      rw [Int.cast_add, Int.cast_one, EReal.coe_add, EReal.coe_one]

/-- The count's exponent and the logarithm's are the same integer, between -125 and 126. -/
theorem exponent_agree (v : EReal) : ∃ e : ℤ, -125 ≤ e ∧ e ≤ 126 ∧ ofCount (count v) = BitVec.ofInt 32 e
    ∧ logExponent v = ((e : ℝ) : EReal) := by
  have hle : (Finset.univ.filter fun x : Fin 256 => lane x.val ≤ v).card < 257 :=
    lt_of_le_of_lt (Finset.card_le_univ _) (by simp)
  have hc : ∀ k, k < 257 → (Finset.univ.filter fun x : Fin 256 => lane x.val ≤ v).card = k → ofCount (count v)
      = if k ≤ 1 ∨ 254 ≤ k then BitVec.ofInt 32 0 else BitVec.ofInt 32 ((k : ℤ) - 127) := fun k hk e => by
    rw [count_eq, e]; exact ofCount_eq ⟨k, hk⟩
  rcases logExponent_cases v with ⟨h, hL⟩ | ⟨h, hL⟩ | ⟨n, hn, hn', h1, h2, hL⟩
  · refine ⟨0, by norm_num, by norm_num, ?_, by rw [hL]; simp⟩
    rw [hc _ hle rfl, if_pos (Or.inl ?_)]
    rw [show 1 = (({0} : Finset (Fin 256))).card from rfl]
    refine Finset.card_le_card fun x hx => ?_
    rw [Finset.mem_filter] at hx
    by_contra hx0
    have : 1 ≤ x.val := Nat.one_le_iff_ne_zero.mpr fun h0 => hx0 (Finset.mem_singleton.mpr (Fin.ext h0))
    have h3 := (lane_mono this (by omega)).trans hx.2
    rw [lane_pos 1 (by norm_num) (by norm_num)] at h3
    exact absurd h (not_lt.mpr h3)
  · refine ⟨0, by norm_num, by norm_num, ?_, by rw [hL]; simp⟩
    rw [hc _ hle rfl, if_pos (Or.inr ?_)]
    have : (Finset.univ.filter fun x : Fin 256 => x.val ≤ 253).card = 254 := by decide +kernel
    rw [← this]
    refine Finset.card_le_card fun x hx => ?_
    rw [Finset.mem_filter] at hx ⊢
    refine ⟨hx.1, (lane_mono hx.2 (by norm_num)).trans ?_⟩
    rw [lane_pos 253 (by norm_num) (by norm_num)]
    exact h
  · refine ⟨n + 1, by omega, by omega, ?_, hL⟩
    obtain ⟨k, hk⟩ : ∃ k : ℕ, (k : ℤ) = n + 127 := ⟨(n + 127).toNat, by omega⟩
    have hcard : (Finset.univ.filter fun x : Fin 256 => lane x.val ≤ v).card = k + 1 := by
      have hk255 : k + 1 < 256 := by omega
      have e : (Finset.univ.filter fun x : Fin 256 => lane x.val ≤ v) = Finset.univ.filter fun x : Fin 256 => x < ⟨k + 1, hk255⟩ := by
        ext x
        simp only [Finset.mem_filter, Finset.mem_univ, true_and, Fin.lt_def]
        constructor
        · intro hx
          by_contra hlt
          have h3 := (lane_mono (not_lt.mp hlt) (by omega)).trans hx
          rw [lane_pos (k + 1) (by omega) (by omega), show ((k + 1 : ℕ) : ℤ) - 127 = n + 1 by push_cast; omega] at h3
          exact absurd h2 (not_lt.mpr h3)
        · intro hx
          refine (lane_mono (Nat.lt_succ_iff.mp hx) (by omega)).trans ?_
          rw [lane_pos k (by omega) (by omega), show (k : ℤ) - 127 = n by omega]
          exact h1
      rw [e]; rw [show (Finset.univ.filter fun x : Fin 256 => x < ⟨k + 1, hk255⟩) = Finset.Iio ⟨k + 1, hk255⟩ from by ext x; simp, Fin.card_Iio]
    rw [hc _ (by omega) hcard, if_neg (by omega)]
    congr 1
    push_cast; omega

/-- Adding 127 to an exponent in range gives the exponent field, whose word reads as the power of two. -/
theorem power_word (e : ℤ) (h : -126 ≤ e) (h' : e ≤ 126) :
    Ideal.ofBits .f32 (IntOp.shli .vector (IntOp.addi (BitVec.ofInt 32 e) 127#32) 23#32) = (((2 : ℝ) ^ e : ℝ) : EReal) := by
  obtain ⟨k, hk⟩ : ∃ k : ℕ, (k : ℤ) = e + 127 := ⟨(e + 127).toNat, by omega⟩
  have : IntOp.addi (BitVec.ofInt 32 e) 127#32 = BitVec.ofNat 32 k := by
    show BitVec.ofInt 32 e + 127#32 = _
    rw [show (127#32 : BitVec 32) = BitVec.ofInt 32 127 from rfl, ← BitVec.ofInt_add, ← hk, BitVec.ofInt_natCast]
  rw [this]
  refine (lane_pos k (by omega) (by omega)).trans ?_
  rw [hk]; congr 2; ring

/-- The negated exponent, as the kernel negates it. -/
theorem neg_word (e : ℤ) : IntOp.subi (0#32) (BitVec.ofInt 32 e) = BitVec.ofInt 32 (-e) := by
  show 0#32 - BitVec.ofInt 32 e = _
  rw [BitVec.ofInt_neg]; simp

/-- The reference's `exp2` at an integer. -/
theorem exp2_int (e : ℤ) : Ideal.exp2 ((e : ℝ) : EReal) = (((2 : ℝ) ^ e : ℝ) : EReal) := by
  rw [Ideal.exp2_coe]
  congr 1
  exact Real.rpow_intCast 2 e

/-- The reference's `exp2` at a negated integer. -/
theorem exp2_neg_int (e : ℤ) : Ideal.exp2 ((0 : EReal) - ((e : ℝ) : EReal)) = (((2 : ℝ) ^ (-e) : ℝ) : EReal) := by
  rw [← exp2_int, zero_sub, ← EReal.coe_neg, Int.cast_neg]

end Cert.Exponent

end
-- ==== Proof.Quantiser.lean ====
/-
  The kernel's quantiser and the reference's agree: the same row maximum gives the same power of two and the same inverse. -/
module

public import proofs.«01_k».proof.Proof.Exponent

@[expose] public section

noncomputable section

namespace Cert.Quantiser

open Idealize.ShloMosaic

/-- The kernel's exponent word for the row maximum `a`. -/
def word (a : EReal) : BitVec 32 :=
  if a = 0 then 0#32 else Exponent.ofCount (Exponent.count (a * Ideal.ofBits .f32 991054117#32))

/-- The reference's exponent for the row maximum `a`. -/
def expo (a : EReal) : EReal :=
  if a = 0 then 0 else Exponent.logExponent (a * Ideal.ofBits .f32 991054117#32)

/-- Both are one integer, small enough for its power of two and that power's inverse to be normal numbers. -/
theorem agree (a : EReal) : ∃ e : ℤ, -125 ≤ e ∧ e ≤ 126 ∧ word a = BitVec.ofInt 32 e ∧ expo a = ((e : ℝ) : EReal) := by
  by_cases h : a = 0
  · refine ⟨0, by omega, by omega, ?_, ?_⟩
    · rw [word, if_pos h]; rfl
    · rw [expo, if_pos h]; norm_num
  · rw [word, if_neg h, expo, if_neg h]
    exact Exponent.exponent_agree _

/-- The kernel's scale is the reference's. -/
theorem scale (a : EReal) :
    Ideal.ofBits .f32 (IntOp.shli .vector (IntOp.addi (word a) 127#32) 23#32) = Ideal.exp2 (expo a) := by
  obtain ⟨e, h1, h2, hw, he⟩ := agree a
  rw [hw, he, Exponent.exp2_int, Exponent.power_word e (by omega) h2]

/-- The kernel's inverse scale is the reference's. -/
theorem inverse (a : EReal) :
    Ideal.ofBits .f32 (IntOp.shli .vector (IntOp.addi (IntOp.subi 0#32 (word a)) 127#32) 23#32) = Ideal.exp2 (0 - expo a) := by
  obtain ⟨e, h1, h2, hw, he⟩ := agree a
  rw [hw, he, Exponent.neg_word, Exponent.exp2_neg_int, Exponent.power_word (-e) (by omega) (by omega)]

end Cert.Quantiser
-- ==== Proof.KernelIdeal.Acc.lean ====
/-
  The accumulator of the kernel's chunked product, read as one sum. The body multiplies the codes by the weights seventeen row blocks at a time; this module
  reads what each product takes from its two buffers and adds the blocks up. -/
module

public import proofs.«01_k».proof.Proof.KernelIdeal.Frame
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

namespace Cert.KernelIdeal.Acc

open Idealize.ShloMosaic Idealize.ShloMosaic.TcCoe Idealize.SL.Sem
open Cert.KernelIdeal Cert.KernelIdeal.Gen Cert.KernelIdeal.Body

/-- The term number `k` of the product's entry: a code times a weight, and zero beyond the last row of the weights. -/
def term (q : S8x8320.Idx → EReal) (w : S8320x4864.Idx → EReal) (i : Fin 8) (j : Fin 4864) (k : ℕ) : EReal :=
  if h : k < 8320 then q (ix2 i ⟨k, h⟩) * w (ix2 ⟨k, h⟩ j) else 0

/-- A block of `n` products from row `off` on is the sum of `n` terms. -/
theorem block (q : S8x8320.Idx → EReal) (w : S8320x4864.Idx → EReal) (i : Fin 8) (j : Fin 4864) (off n : ℕ) (h : off + n ≤ 8320) :
    (∑ k : Fin n, q (ix2 i ⟨off + k.val, by omega⟩) * w (ix2 ⟨off + k.val, by omega⟩ j)) = ∑ k ∈ Finset.range n, term q w i j (off + k) := by
  rw [Finset.sum_range]
  refine Finset.sum_congr rfl fun k _ => ?_
  rw [term, dif_pos (by omega)]

/-- All the terms together are the whole product. -/
theorem all_terms (q : S8x8320.Idx → EReal) (w : S8320x4864.Idx → EReal) (i : Fin 8) (j : Fin 4864) :
    (∑ k ∈ Finset.range 8320, term q w i j k) = ∑ k : Fin 8320, q (ix2 i k) * w (ix2 k j) := by
  rw [Finset.sum_range]
  refine Finset.sum_congr rfl fun k _ => ?_
  rw [term, dif_pos k.isLt]

/-- What a copy out of a rectangle of a whole buffer carries: the buffer's contents at the rectangle's places. -/
theorem slice_read {sig : RefSig} {κ : Kind} {Val : EltTy → Type} (b : Ref sig κ) (r : Rect b.ty.shape) (h) (f : b.ty.Contents Val) (j : r.shape.Idx) :
    ReadAs.same.apply (View.read Val ((Memref.whole b).slice r h).view f) j = f (r.emb j) := rfl

variable (c : Dev nD) (arg0 : Memref sig Kind.tc Space.vmem S8x8320 EltTy.bf16) (harg0 : arg0.IsWhole)
  (arg5 : Memref sig Kind.tc Space.vmem S8x8320 EltTy.fp8e4m3) (arg7 : Memref sig Kind.tc Space.vmem S8320x4864 EltTy.fp8e4m3)
  (arg8 : Memref sig Kind.tc Space.vmem S8x4864 EltTy.f32) (x0 : Vec Ideal S8x8320 EltTy.bf16) (fh0 : HbBuf0 (F := Ideal) c hbM0_0)

/-- The codes the body stores: its quantiser's payload. -/
def codes : S8x8320.Idx → EReal := kernelRun0_A.sl.r_3 c arg0 harg0 x0

/-- The weights as the body finds them in main memory. -/
def weights : S8320x4864.Idx → EReal := fh0

/-- The first chunk's product, entry by entry. -/
theorem first (x : FVec Ideal S8x512 .fp8e4m3) (w : FVec Ideal S512x4864 .fp8e4m3) (y : Fin 8) (z : Fin 4864) :
    (k0_pay8 (F := Ideal) x w (ix2 y z) : EReal) = ∑ k : Fin 512, (x (ix2 y k) : EReal) * (w (ix2 k z) : EReal) := by
  pointwise [k0_pay8]

/-- A later chunk's product, added to the accumulator, entry by entry; the payloads of all the later chunks of 512 rows are this one by definition. -/
theorem next (x : FVec Ideal S8x512 .fp8e4m3) (w : FVec Ideal S512x4864 .fp8e4m3) (v : FVec Ideal S8x4864 .f32) (y : Fin 8) (z : Fin 4864) :
    (k0_pay9 (F := Ideal) x w v (ix2 y z) : EReal) = (v (ix2 y z) : EReal) + ∑ k : Fin 512, (x (ix2 y k) : EReal) * (w (ix2 k z) : EReal) := by
  pointwise [k0_pay9]

/-- The last chunk's product, added to the accumulator, entry by entry. -/
theorem last (x : FVec Ideal S8x128 .fp8e4m3) (w : FVec Ideal S128x4864 .fp8e4m3) (v : FVec Ideal S8x4864 .f32) (y : Fin 8) (z : Fin 4864) :
    (k0_pay1 (F := Ideal) (k0_pay24 x) w v (ix2 y z) : EReal) = (v (ix2 y z) : EReal) + ∑ k : Fin 128, (x (ix2 y k) : EReal) * (w (ix2 k z) : EReal) := by
  pointwise [k0_pay1, k0_pay24]

/-- The copies of the weights' row blocks into the on-chip buffer, last first. -/
def copies : List (View.Piece (Elt Ideal) S8320x4864 .fp8e4m3) :=
  [⟨Rect.unit ![8192, 0] S128x4864.size inb_S8320x4864_S128x4864_8192_0, kernelRun0_A.sl.dma0_16 c fh0⟩,
   ⟨Rect.unit ![7680, 0] S512x4864.size inb_S8320x4864_S512x4864_7680_0, kernelRun0_A.sl.dma0_15 c fh0⟩,
   ⟨Rect.unit ![7168, 0] S512x4864.size inb_S8320x4864_S512x4864_7168_0, kernelRun0_A.sl.dma0_14 c fh0⟩,
   ⟨Rect.unit ![6656, 0] S512x4864.size inb_S8320x4864_S512x4864_6656_0, kernelRun0_A.sl.dma0_13 c fh0⟩,
   ⟨Rect.unit ![6144, 0] S512x4864.size inb_S8320x4864_S512x4864_6144_0, kernelRun0_A.sl.dma0_12 c fh0⟩,
   ⟨Rect.unit ![5632, 0] S512x4864.size inb_S8320x4864_S512x4864_5632_0, kernelRun0_A.sl.dma0_11 c fh0⟩,
   ⟨Rect.unit ![5120, 0] S512x4864.size inb_S8320x4864_S512x4864_5120_0, kernelRun0_A.sl.dma0_10 c fh0⟩,
   ⟨Rect.unit ![4608, 0] S512x4864.size inb_S8320x4864_S512x4864_4608_0, kernelRun0_A.sl.dma0_9 c fh0⟩,
   ⟨Rect.unit ![4096, 0] S512x4864.size inb_S8320x4864_S512x4864_4096_0, kernelRun0_A.sl.dma0_8 c fh0⟩,
   ⟨Rect.unit ![3584, 0] S512x4864.size inb_S8320x4864_S512x4864_3584_0, kernelRun0_A.sl.dma0_7 c fh0⟩,
   ⟨Rect.unit ![3072, 0] S512x4864.size inb_S8320x4864_S512x4864_3072_0, kernelRun0_A.sl.dma0_6 c fh0⟩,
   ⟨Rect.unit ![2560, 0] S512x4864.size inb_S8320x4864_S512x4864_2560_0, kernelRun0_A.sl.dma0_5 c fh0⟩,
   ⟨Rect.unit ![2048, 0] S512x4864.size inb_S8320x4864_S512x4864_2048_0, kernelRun0_A.sl.dma0_4 c fh0⟩,
   ⟨Rect.unit ![1536, 0] S512x4864.size inb_S8320x4864_S512x4864_1536_0, kernelRun0_A.sl.dma0_3 c fh0⟩,
   ⟨Rect.unit ![1024, 0] S512x4864.size inb_S8320x4864_S512x4864_1024_0, kernelRun0_A.sl.dma0_2 c fh0⟩,
   ⟨Rect.unit ![512, 0] S512x4864.size inb_S8320x4864_S512x4864_512_0, kernelRun0_A.sl.dma0_1 c fh0⟩,
   ⟨Rect.unit ![0, 0] S512x4864.size inb_S8320x4864_S512x4864_0_0, kernelRun0_A.sl.dma0 c fh0⟩]

/-- Each copy carries the weights of its own rows. -/
theorem copies_pieces : View.PiecesOf (weights c fh0) (copies c fh0) := by
  unfold copies weights kernelRun0_A.sl.dma0 kernelRun0_A.sl.dma0_1 kernelRun0_A.sl.dma0_2 kernelRun0_A.sl.dma0_3 kernelRun0_A.sl.dma0_4 kernelRun0_A.sl.dma0_5
    kernelRun0_A.sl.dma0_6 kernelRun0_A.sl.dma0_7 kernelRun0_A.sl.dma0_8 kernelRun0_A.sl.dma0_9 kernelRun0_A.sl.dma0_10 kernelRun0_A.sl.dma0_11
    kernelRun0_A.sl.dma0_12 kernelRun0_A.sl.dma0_13 kernelRun0_A.sl.dma0_14 kernelRun0_A.sl.dma0_15 kernelRun0_A.sl.dma0_16
  refine ⟨?_, ?_, ?_, ?_, ?_, ?_, ?_, ?_, ?_, ?_, ?_, ?_, ?_, ?_, ?_, ?_, ?_, trivial⟩ <;> (intro x; dsimp only; exact slice_read main_arg1 _ (fun _ => rfl) fh0 x)

/-- The copies leave no row out. -/
theorem copies_cover (i : S8320x4864.Idx) : ∃ p ∈ copies c fh0, i ∈ p.1.set := by
  have h0 : (i 0).val < 8320 := (i 0).isLt
  have h1 : (i 1).val < 4864 := (i 1).isLt
  simp only [copies, List.mem_cons, exists_eq_or_imp, Rect.mem_set_unit, Fin.forall_fin_two, Matrix.cons_val_zero, Matrix.cons_val_one]
  omega

/-- What any load from the weights' buffer reads after the copies: the weights. -/
theorem weights_read (r : Rect S8320x4864) (i : r.shape.Idx) : arg7.view.readCov (copies c fh0) r.toLoadRect i = weights c fh0 (r.emb i) := by
  rw [View.readCov_eq_canon']
  have h := View.canon_append_of_piecesOf (weights c fh0) [] (copies c fh0) (copies_pieces c fh0) (r.emb i) (copies_cover c fh0 _)
  rw [List.append_nil] at h
  exact h

/-- What any load from the codes' buffer reads after the store: the codes. -/
theorem codes_read (r : Rect S8x8320) (i : r.shape.Idx) :
    arg5.view.readCov (kernelRun0_A.sl.H4_1 c arg0 harg0 x0) r.toLoadRect i = codes c arg0 harg0 x0 (r.emb i) := by
  unfold kernelRun0_A.sl.H4_1
  rw [View.readCov_fill _ _ _ _ _ (by decide)]
  rfl

/-- The place of an entry of a block of columns. -/
theorem emb_cols (off n : ℕ) (h : off + n ≤ 8320) (inb) (y : Fin 8) (k : Fin n) :
    (Rect.unit (s := S8x8320) ![0, off] ![8, n] inb).emb (ix2 y k) = ix2 y ⟨off + k.val, by omega⟩ := by
  funext a; apply Fin.ext
  fin_cases a
  · show 0 + 1 * y.val = y.val; omega
  · show off + 1 * k.val = off + k.val; omega

/-- The place of an entry of a block of rows. -/
theorem emb_rows (off n : ℕ) (h : off + n ≤ 8320) (inb) (k : Fin n) (z : Fin 4864) :
    (Rect.unit (s := S8320x4864) ![off, 0] ![n, 4864] inb).emb (ix2 k z) = ix2 ⟨off + k.val, by omega⟩ z := by
  funext a; apply Fin.ext
  fin_cases a
  · show off + 1 * k.val = off + k.val; omega
  · show 0 + 1 * z.val = z.val; omega

/-- The product of a block of columns of the codes with the same block of rows of the weights, both as loaded, is `n` terms. -/
theorem chunk (off n : ℕ) (h : off + n ≤ 8320) (inb5) (inb7) (y : Fin 8) (z : Fin 4864) :
    (∑ k : Fin n, (arg5.view.readCov (kernelRun0_A.sl.H4_1 c arg0 harg0 x0) (Rect.unit (s := S8x8320) ![0, off] ![8, n] inb5).toLoadRect (ix2 y k) : EReal)
        * (arg7.view.readCov (copies c fh0) (Rect.unit (s := S8320x4864) ![off, 0] ![n, 4864] inb7).toLoadRect (ix2 k z) : EReal))
      = ∑ k ∈ Finset.range n, term (codes c arg0 harg0 x0) (weights c fh0) y z (off + k) := by
  rw [← block _ _ _ _ off n h]
  refine Finset.sum_congr rfl fun k _ => congrArg₂ _ ?_ ?_
  · exact (codes_read c arg0 harg0 arg5 x0 _ _).trans (congrArg _ (emb_cols off n h inb5 y k))
  · exact (weights_read c arg7 fh0 _ _).trans (congrArg _ (emb_rows off n h inb7 k z))

/-- One more chunk of 512 rows: an accumulator that holds the first `off` terms holds the first `off + 512` after it. -/
theorem step (off : ℕ) (h : off + 512 ≤ 8320) (inb5) (inb7) (v : FVec Ideal S8x4864 .f32)
    (hv : ∀ y z, (v (ix2 y z) : EReal) = ∑ k ∈ Finset.range off, term (codes c arg0 harg0 x0) (weights c fh0) y z k) (y : Fin 8) (z : Fin 4864) :
    (k0_pay9 (F := Ideal) (arg5.view.readCov (kernelRun0_A.sl.H4_1 c arg0 harg0 x0) (Rect.unit (s := S8x8320) ![0, off] S8x512.size inb5).toLoadRect)
        (arg7.view.readCov (copies c fh0) (Rect.unit (s := S8320x4864) ![off, 0] S512x4864.size inb7).toLoadRect) v (ix2 y z) : EReal)
      = ∑ k ∈ Finset.range (off + 512), term (codes c arg0 harg0 x0) (weights c fh0) y z k := by
  rw [Finset.sum_range_add, next, hv]
  exact congrArg _ (chunk c arg0 harg0 arg5 arg7 x0 fh0 off 512 h inb5 inb7 y z)

/-- After chunk 0 the accumulator holds the first 512 terms. -/
theorem acc_0 (y : Fin 8) (z : Fin 4864) :
    kernelRun0_A.sl.v138 c arg0 harg0 arg5 arg7 arg8 x0 fh0 (ix2 y z) = ∑ k ∈ Finset.range 512, term (codes c arg0 harg0 x0) (weights c fh0) y z k := by
  unfold kernelRun0_A.sl.v138 kernelRun0_A.sl.HS1_1
  rw [View.readCov_cons_toLoadRect, first]
  refine (chunk c arg0 harg0 arg5 arg7 x0 fh0 0 512 (by omega) _ _ y z).trans ?_
  simp only [Nat.zero_add]

/-- After chunk 1 it holds the first 1024. -/
theorem acc_1 (y : Fin 8) (z : Fin 4864) :
    kernelRun0_A.sl.v151 c arg0 harg0 arg5 arg7 arg8 x0 fh0 (ix2 y z) = ∑ k ∈ Finset.range 1024, term (codes c arg0 harg0 x0) (weights c fh0) y z k := by
  unfold kernelRun0_A.sl.v151 kernelRun0_A.sl.HS1_2
  rw [View.readCov_cons_toLoadRect]
  exact step c arg0 harg0 arg5 arg7 x0 fh0 512 (by omega) _ _ _ (acc_0 c arg0 harg0 arg5 arg7 arg8 x0 fh0) y z

/-- After chunk 2 it holds the first 1536. -/
theorem acc_2 (y : Fin 8) (z : Fin 4864) :
    kernelRun0_A.sl.v164 c arg0 harg0 arg5 arg7 arg8 x0 fh0 (ix2 y z) = ∑ k ∈ Finset.range 1536, term (codes c arg0 harg0 x0) (weights c fh0) y z k := by
  unfold kernelRun0_A.sl.v164 kernelRun0_A.sl.HS1_3
  rw [View.readCov_cons_toLoadRect]
  exact step c arg0 harg0 arg5 arg7 x0 fh0 1024 (by omega) _ _ _ (acc_1 c arg0 harg0 arg5 arg7 arg8 x0 fh0) y z

/-- After chunk 3 it holds the first 2048. -/
theorem acc_3 (y : Fin 8) (z : Fin 4864) :
    kernelRun0_A.sl.v177 c arg0 harg0 arg5 arg7 arg8 x0 fh0 (ix2 y z) = ∑ k ∈ Finset.range 2048, term (codes c arg0 harg0 x0) (weights c fh0) y z k := by
  unfold kernelRun0_A.sl.v177 kernelRun0_A.sl.HS1_4
  rw [View.readCov_cons_toLoadRect]
  exact step c arg0 harg0 arg5 arg7 x0 fh0 1536 (by omega) _ _ _ (acc_2 c arg0 harg0 arg5 arg7 arg8 x0 fh0) y z

/-- After chunk 4 it holds the first 2560. -/
theorem acc_4 (y : Fin 8) (z : Fin 4864) :
    kernelRun0_A.sl.v190 c arg0 harg0 arg5 arg7 arg8 x0 fh0 (ix2 y z) = ∑ k ∈ Finset.range 2560, term (codes c arg0 harg0 x0) (weights c fh0) y z k := by
  unfold kernelRun0_A.sl.v190 kernelRun0_A.sl.HS1_5
  rw [View.readCov_cons_toLoadRect]
  exact step c arg0 harg0 arg5 arg7 x0 fh0 2048 (by omega) _ _ _ (acc_3 c arg0 harg0 arg5 arg7 arg8 x0 fh0) y z

/-- After chunk 5 it holds the first 3072. -/
theorem acc_5 (y : Fin 8) (z : Fin 4864) :
    kernelRun0_A.sl.v203 c arg0 harg0 arg5 arg7 arg8 x0 fh0 (ix2 y z) = ∑ k ∈ Finset.range 3072, term (codes c arg0 harg0 x0) (weights c fh0) y z k := by
  unfold kernelRun0_A.sl.v203 kernelRun0_A.sl.HS1_6
  rw [View.readCov_cons_toLoadRect]
  exact step c arg0 harg0 arg5 arg7 x0 fh0 2560 (by omega) _ _ _ (acc_4 c arg0 harg0 arg5 arg7 arg8 x0 fh0) y z

/-- After chunk 6 it holds the first 3584. -/
theorem acc_6 (y : Fin 8) (z : Fin 4864) :
    kernelRun0_A.sl.v216 c arg0 harg0 arg5 arg7 arg8 x0 fh0 (ix2 y z) = ∑ k ∈ Finset.range 3584, term (codes c arg0 harg0 x0) (weights c fh0) y z k := by
  unfold kernelRun0_A.sl.v216 kernelRun0_A.sl.HS1_7
  rw [View.readCov_cons_toLoadRect]
  exact step c arg0 harg0 arg5 arg7 x0 fh0 3072 (by omega) _ _ _ (acc_5 c arg0 harg0 arg5 arg7 arg8 x0 fh0) y z

/-- After chunk 7 it holds the first 4096. -/
theorem acc_7 (y : Fin 8) (z : Fin 4864) :
    kernelRun0_A.sl.v229 c arg0 harg0 arg5 arg7 arg8 x0 fh0 (ix2 y z) = ∑ k ∈ Finset.range 4096, term (codes c arg0 harg0 x0) (weights c fh0) y z k := by
  unfold kernelRun0_A.sl.v229 kernelRun0_A.sl.HS1_8
  rw [View.readCov_cons_toLoadRect]
  exact step c arg0 harg0 arg5 arg7 x0 fh0 3584 (by omega) _ _ _ (acc_6 c arg0 harg0 arg5 arg7 arg8 x0 fh0) y z

/-- After chunk 8 it holds the first 4608. -/
theorem acc_8 (y : Fin 8) (z : Fin 4864) :
    kernelRun0_A.sl.v242 c arg0 harg0 arg5 arg7 arg8 x0 fh0 (ix2 y z) = ∑ k ∈ Finset.range 4608, term (codes c arg0 harg0 x0) (weights c fh0) y z k := by
  unfold kernelRun0_A.sl.v242 kernelRun0_A.sl.HS1_9
  rw [View.readCov_cons_toLoadRect]
  exact step c arg0 harg0 arg5 arg7 x0 fh0 4096 (by omega) _ _ _ (acc_7 c arg0 harg0 arg5 arg7 arg8 x0 fh0) y z

/-- After chunk 9 it holds the first 5120. -/
theorem acc_9 (y : Fin 8) (z : Fin 4864) :
    kernelRun0_A.sl.v255 c arg0 harg0 arg5 arg7 arg8 x0 fh0 (ix2 y z) = ∑ k ∈ Finset.range 5120, term (codes c arg0 harg0 x0) (weights c fh0) y z k := by
  unfold kernelRun0_A.sl.v255 kernelRun0_A.sl.HS1_10
  rw [View.readCov_cons_toLoadRect]
  exact step c arg0 harg0 arg5 arg7 x0 fh0 4608 (by omega) _ _ _ (acc_8 c arg0 harg0 arg5 arg7 arg8 x0 fh0) y z

/-- After chunk 10 it holds the first 5632. -/
theorem acc_10 (y : Fin 8) (z : Fin 4864) :
    kernelRun0_A.sl.v268 c arg0 harg0 arg5 arg7 arg8 x0 fh0 (ix2 y z) = ∑ k ∈ Finset.range 5632, term (codes c arg0 harg0 x0) (weights c fh0) y z k := by
  unfold kernelRun0_A.sl.v268 kernelRun0_A.sl.HS1_11
  rw [View.readCov_cons_toLoadRect]
  exact step c arg0 harg0 arg5 arg7 x0 fh0 5120 (by omega) _ _ _ (acc_9 c arg0 harg0 arg5 arg7 arg8 x0 fh0) y z

/-- After chunk 11 it holds the first 6144. -/
theorem acc_11 (y : Fin 8) (z : Fin 4864) :
    kernelRun0_A.sl.v281 c arg0 harg0 arg5 arg7 arg8 x0 fh0 (ix2 y z) = ∑ k ∈ Finset.range 6144, term (codes c arg0 harg0 x0) (weights c fh0) y z k := by
  unfold kernelRun0_A.sl.v281 kernelRun0_A.sl.HS1_12
  rw [View.readCov_cons_toLoadRect]
  exact step c arg0 harg0 arg5 arg7 x0 fh0 5632 (by omega) _ _ _ (acc_10 c arg0 harg0 arg5 arg7 arg8 x0 fh0) y z

/-- After chunk 12 it holds the first 6656. -/
theorem acc_12 (y : Fin 8) (z : Fin 4864) :
    kernelRun0_A.sl.v294 c arg0 harg0 arg5 arg7 arg8 x0 fh0 (ix2 y z) = ∑ k ∈ Finset.range 6656, term (codes c arg0 harg0 x0) (weights c fh0) y z k := by
  unfold kernelRun0_A.sl.v294 kernelRun0_A.sl.HS1_13
  rw [View.readCov_cons_toLoadRect]
  exact step c arg0 harg0 arg5 arg7 x0 fh0 6144 (by omega) _ _ _ (acc_11 c arg0 harg0 arg5 arg7 arg8 x0 fh0) y z

/-- After chunk 13 it holds the first 7168. -/
theorem acc_13 (y : Fin 8) (z : Fin 4864) :
    kernelRun0_A.sl.v307 c arg0 harg0 arg5 arg7 arg8 x0 fh0 (ix2 y z) = ∑ k ∈ Finset.range 7168, term (codes c arg0 harg0 x0) (weights c fh0) y z k := by
  unfold kernelRun0_A.sl.v307 kernelRun0_A.sl.HS1_14
  rw [View.readCov_cons_toLoadRect]
  exact step c arg0 harg0 arg5 arg7 x0 fh0 6656 (by omega) _ _ _ (acc_12 c arg0 harg0 arg5 arg7 arg8 x0 fh0) y z

/-- After chunk 14 it holds the first 7680. -/
theorem acc_14 (y : Fin 8) (z : Fin 4864) :
    kernelRun0_A.sl.v320 c arg0 harg0 arg5 arg7 arg8 x0 fh0 (ix2 y z) = ∑ k ∈ Finset.range 7680, term (codes c arg0 harg0 x0) (weights c fh0) y z k := by
  unfold kernelRun0_A.sl.v320 kernelRun0_A.sl.HS1_15
  rw [View.readCov_cons_toLoadRect]
  exact step c arg0 harg0 arg5 arg7 x0 fh0 7168 (by omega) _ _ _ (acc_13 c arg0 harg0 arg5 arg7 arg8 x0 fh0) y z

/-- After chunk 15 it holds the first 8192. -/
theorem acc_15 (y : Fin 8) (z : Fin 4864) :
    kernelRun0_A.sl.v333 c arg0 harg0 arg5 arg7 arg8 x0 fh0 (ix2 y z) = ∑ k ∈ Finset.range 8192, term (codes c arg0 harg0 x0) (weights c fh0) y z k := by
  unfold kernelRun0_A.sl.v333 kernelRun0_A.sl.HS1_16
  rw [View.readCov_cons_toLoadRect]
  exact step c arg0 harg0 arg5 arg7 x0 fh0 7680 (by omega) _ _ _ (acc_14 c arg0 harg0 arg5 arg7 arg8 x0 fh0) y z

/-- After the last chunk, of 128 rows, it holds all 8320. -/
theorem acc_16 (y : Fin 8) (z : Fin 4864) :
    kernelRun0_A.sl.v338 c arg0 harg0 arg5 arg7 arg8 x0 fh0 (ix2 y z) = ∑ k ∈ Finset.range 8320, term (codes c arg0 harg0 x0) (weights c fh0) y z k := by
  unfold kernelRun0_A.sl.v338 kernelRun0_A.sl.HS1_17 kernelRun0_A.sl.r_4
  rw [View.readCov_cons_toLoadRect, last, acc_15]
  refine (congrArg _ (chunk c arg0 harg0 arg5 arg7 x0 fh0 8192 128 (by omega) _ _ y z)).trans ?_
  exact (Finset.sum_range_add (term (codes c arg0 harg0 x0) (weights c fh0) y z) 8192 128).symm

/-- The finished accumulator is the codes times the weights, one sum over all rows. -/
theorem product (y : Fin 8) (z : Fin 4864) :
    kernelRun0_A.sl.v338 c arg0 harg0 arg5 arg7 arg8 x0 fh0 (ix2 y z)
      = ∑ k : Fin 8320, codes c arg0 harg0 x0 (ix2 y k) * weights c fh0 (ix2 k z) :=
  (acc_16 c arg0 harg0 arg5 arg7 arg8 x0 fh0 y z).trans (all_terms _ _ y z)

end Cert.KernelIdeal.Acc
-- ==== Proof.KernelIdeal.Out.lean ====
/-
  What the kernel leaves in its three result windows, entry by entry, in terms of what the region finds in its operands. -/
module

public import proofs.«01_k».proof.Proof.KernelIdeal.Acc
public import proofs.«01_k».proof.Proof.Exponent
public import Idealize.ShloMosaic.Lib.VecWindow

@[expose] public section

set_option maxRecDepth 16384

noncomputable section

namespace Cert.KernelIdeal.Out

open Idealize.ShloMosaic Idealize.ShloMosaic.TcCoe Idealize.SL.Sem
open Idealize.ShloMosaic.Pipeline (Dat)
open Cert.KernelIdeal Cert.KernelIdeal.Gen Cert.KernelIdeal.Body

/-! ## The body's values at an index -/

/-- The largest magnitude of row `y`. -/
def amax (x : S8x8320.Idx → EReal) (y : Fin 8) : EReal :=
  Finset.fold max (Ideal.ofBits .f32 4286578688#32) (fun k : Fin 8320 => FloatOps.absf (F := Ideal) (φ := .f32) (x (ix2 y k))) Finset.univ

/-- The exponent the body computes for row `y`, as an integer word. -/
def word (x : S8x8320.Idx → EReal) (y : Fin 8) : BitVec 32 :=
  if amax x y = 0 then 0#32 else Exponent.ofCount (Exponent.count (amax x y * Ideal.ofBits .f32 991054117#32))

/-- The scale of row `y`: the power of two whose exponent is the word. -/
def scale (x : S8x8320.Idx → EReal) (y : Fin 8) : EReal :=
  Ideal.ofBits .f32 (IntOp.shli .vector (IntOp.addi (word x y) 127#32) 23#32)

/-- The code of entry `(y, k)`: the entry times the inverse scale, clipped. -/
def code (x : S8x8320.Idx → EReal) (y : Fin 8) (k : Fin 8320) : EReal :=
  min (Ideal.ofBits .f32 1138753536#32) (max (Ideal.ofBits .f32 3286237184#32)
    (x (ix2 y k) * Ideal.ofBits .f32 (IntOp.shli .vector (IntOp.addi (IntOp.subi 0#32 (word x y)) 127#32) 23#32)))

/-- The body's row maximum. -/
theorem pay4_apply (x : FVec Ideal S8x8320 .bf16) (y : Fin 8) : (k0_pay4 (F := Ideal) x (ix2 y 0) : EReal) = amax x y := by
  pointwise [k0_pay4, k0_pay3, amax]

/-- The body's exponent word. -/
theorem pay5_apply (x : FVec Ideal S8x8320 .bf16) (y : Fin 8) :
    k0_pay5 (F := Ideal) (k0_pay4 x) (Ideal.ofBits .f32 991054117#32) (ix2 y 0) = word x y := by
  have h := pay4_apply x y
  generalize hq : k0_pay4 (F := Ideal) x = q at h
  unfold word; rw [← h]
  pointwise [k0_pay5]
  rfl

/-- The body's scale. -/
theorem pay6_apply (x : FVec Ideal S8x8320 .bf16) (y : Fin 8) :
    (k0_pay6 (F := Ideal) (k0_pay4 x) (Ideal.ofBits .f32 991054117#32) (ix2 y 0) : EReal) = scale x y := by
  unfold scale; rw [← pay5_apply]
  generalize k0_pay4 (F := Ideal) x = q
  pointwise [k0_pay6]

/-- The body's codes. -/
theorem pay7_apply (x : FVec Ideal S8x8320 .bf16) (y : Fin 8) (k : Fin 8320) :
    (k0_pay7 (F := Ideal) (k0_pay3 x) (k0_pay4 x) (Ideal.ofBits .f32 991054117#32) (ix2 y k) : EReal) = code x y k := by
  unfold code; rw [← pay5_apply]
  generalize k0_pay4 (F := Ideal) x = q
  pointwise [k0_pay7, k0_pay3]

/-- The body's result: the accumulator scaled twice, plus the bias. -/
theorem pay2_apply (s : FVec Ideal S8x1 .f32) (a : FVec Ideal S8x4864 .f32) (u v : FVec Ideal S1x4864 .f32) (y : Fin 8) (z : Fin 4864) :
    (k0_pay2 (F := Ideal) s a u v (ix2 y z) : EReal)
      = (a (ix2 y z) : EReal) * (s (ix2 y 0) : EReal) * (u (ix2 0 z) : EReal) + (v (ix2 0 z) : EReal) := by
  pointwise [k0_pay2]

/-! ## The windows -/

variable (m : (ℓ : Loc nD τ sig) → Buf (Elt Ideal) ℓ) (c : Dev nD)

/-- The three staged operands' index maps are zero at the one grid point. -/
theorem idx : ∀ t : Fin grid0.N, (cfg0.win 0).index t = ![0, 0] ∧ (cfg0.win 1).index t = ![0, 0] ∧ (cfg0.win 2).index t = ![0, 0] := by
  decide +kernel

/-- The whole input buffer, read through its own sizes, is the block in it. -/
theorem load_whole (arg0 : Memref sig Kind.tc Space.vmem S8x8320 EltTy.bf16) (h : arg0.IsWhole) (x : Vec Ideal S8x8320 .bf16) :
    View.readAt (Elt Ideal) arg0.view (Rect.unit ![0, 0] S8x8320.size inb_S8x8320_S8x8320_0_0).toLoadRect (h.unread x) = x := by
  rw [View.readAt_full, h.read_unread]

/-- The codes the body stores are its quantiser's payload at the block. -/
theorem codes_eq (arg0 : Memref sig Kind.tc Space.vmem S8x8320 EltTy.bf16) (h : arg0.IsWhole) (x : Vec Ideal S8x8320 .bf16) :
    Acc.codes c arg0 h x = k0_pay7 (F := Ideal) (k0_pay3 x) (k0_pay4 x) (Ideal.ofBits .f32 991054117#32) := by
  unfold Acc.codes kernelRun0_A.sl.r_3 kernelRun0_A.sl.r kernelRun0_A.sl.r_1
  rw [load_whole]
  rfl

/-- The scale the body stores is its quantiser's payload at the block. -/
theorem scale_eq (arg0 : Memref sig Kind.tc Space.vmem S8x8320 EltTy.bf16) (h : arg0.IsWhole) (x : Vec Ideal S8x8320 .bf16) :
    kernelRun0_A.sl.r_2 c arg0 h x = k0_pay6 (F := Ideal) (k0_pay4 x) (Ideal.ofBits .f32 991054117#32) := by
  unfold kernelRun0_A.sl.r_2 kernelRun0_A.sl.r_1
  rw [load_whole]
  rfl

/-- The block of the activations is the whole operand. -/
theorem block0 : iblk m c 0 t0_0 = V m c main_v0 := by
  funext j
  unfold iblk
  refine congrArg (V m c main_v0) ?_
  blk_ext [idx t0_0]

/-- The block of the weights' scales is the whole operand. -/
theorem block1 : iblk m c 1 t0_0 = V m c main_v1 := by
  funext j
  unfold iblk
  refine congrArg (V m c main_v1) ?_
  blk_ext [idx t0_0]

/-- The block of the bias is the whole operand. -/
theorem block2 : iblk m c 2 t0_0 = V m c main_v2 := by
  funext j
  unfold iblk
  refine congrArg (V m c main_v2) ?_
  blk_ext [idx t0_0]

/-- The codes' array: entry by entry the clipped quotients. -/
theorem final4 : (dats m 0 c).arrAt 4 cfg0.N = fun i : S8x8320.Idx => code (V m c main_v0) (i 0) (i 1) := by
  refine (dats m 0 c).arrAt_eq_of_after_last 4 t0_0 (by decide +kernel) _ fun j => ?_
  blk_simp
  rw [after0_4]; unfold outsAt0 out0_A_4 kernelRun0_A; dsimp only
  rw [View.read_writes_junk_eq_canon]
  unfold kernelRun0_A.sl.H4_1
  rw [View.canon_unit_zero (by decide)]
  rw [block0]
  refine (congrFun (codes_eq c _ _ _) j).trans ?_
  have hj : j = ix2 (j 0) (j 1) := by funext a; fin_cases a <;> rfl
  rw [hj]
  exact pay7_apply _ _ _

/-- The scales' array: row by row the power of two. -/
theorem final5 : (dats m 0 c).arrAt 5 cfg0.N = fun i : S8x1.Idx => scale (V m c main_v0) (i 0) := by
  refine (dats m 0 c).arrAt_eq_of_after_last 5 t0_0 (by decide +kernel) _ fun j => ?_
  blk_simp
  rw [after0_5]; unfold outsAt0 out0_A_5 kernelRun0_A; dsimp only
  rw [View.read_writes_junk_eq_canon]
  rw [View.canon_unit_zero (by decide)]
  rw [block0]
  refine (congrFun (scale_eq c _ _ _) j).trans ?_
  have hj : j = ix2 (j 0) 0 := by funext a; fin_cases a; rfl; exact Fin.fin_one_eq_zero _
  rw [hj]
  exact pay6_apply _ _

/-- The whole buffer of a one-row operand, read through its own sizes, is the block in it. -/
theorem load_row (arg : Memref sig Kind.tc Space.vmem S1x4864 EltTy.f32) (h : arg.IsWhole) (x : Vec Ideal S1x4864 .f32) :
    View.readAt (Elt Ideal) arg.view (Rect.unit ![0, 0] ![1, 4864] inb_S1x4864_S1x4864_0_0).toLoadRect (h.unread x) = x := by
  refine Eq.trans (View.readAt_full (s := S1x4864) _ _ _) ?_
  rw [h.read_unread]

/-- The result of the body's last store at an index. -/
theorem result_apply (arg0 : Memref sig Kind.tc Space.vmem S8x8320 EltTy.bf16) (h0 : arg0.IsWhole)
    (arg5 : Memref sig Kind.tc Space.vmem S8x8320 EltTy.fp8e4m3) (arg7 : Memref sig Kind.tc Space.vmem S8320x4864 EltTy.fp8e4m3)
    (arg8 : Memref sig Kind.tc Space.vmem S8x4864 EltTy.f32) (x : Vec Ideal S8x8320 .bf16) (w : HbBuf0 (F := Ideal) c hbM0_0)
    (u v : FVec Ideal S1x4864 .f32) (y : Fin 8) (z : Fin 4864) :
    (k0_pay2 (F := Ideal) (kernelRun0_A.sl.r_2 c arg0 h0 x) (kernelRun0_A.sl.v338 c arg0 h0 arg5 arg7 arg8 x w) u v (ix2 y z) : EReal)
      = (∑ k : Fin 8320, code x y k * Acc.weights c w (ix2 k z)) * scale x y * (u (ix2 0 z) : EReal) + (v (ix2 0 z) : EReal) := by
  refine (pay2_apply _ _ _ _ _ _).trans ?_
  rw [scale_eq, pay6_apply, Acc.product, codes_eq]
  simp only [pay7_apply]

/-- The result's array: the codes times the weights, scaled by both scales, plus the bias. -/
theorem final3 : (dats m 0 c).arrAt 3 cfg0.N = fun i : S8x4864.Idx =>
    (∑ k : Fin 8320, code (V m c main_v0) (i 0) k * Acc.weights c (V m c main_arg1) (ix2 k (i 1))) * scale (V m c main_v0) (i 0)
      * (V m c main_v1 (ix2 0 (i 1)) : EReal) + (V m c main_v2 (ix2 0 (i 1)) : EReal) := by
  refine (dats m 0 c).arrAt_eq_of_after_last 3 t0_0 (by decide +kernel) _ fun j => ?_
  blk_simp
  rw [after0_3]; unfold outsAt0 out0_A_3 kernelRun0_A; dsimp only
  rw [View.read_writes_junk_eq_canon]
  rw [View.canon_unit_zero (by decide), block0, block1, block2]
  have hj : j = ix2 (j 0) (j 1) := by funext a; fin_cases a <;> rfl
  rw [hj]
  refine (result_apply c _ _ _ _ _ _ _ _ _ _ _).trans ?_
  exact congrArg₂ (fun u v : S1x4864.Idx → EReal => (∑ k : Fin 8320, code (V m c main_v0) (j 0) k * Acc.weights c (V m c main_arg1) (ix2 k (j 1)))
    * scale (V m c main_v0) (j 0) * u (ix2 0 (j 1)) + v (ix2 0 (j 1))) (load_row (Memref.whole cc0_stg1_0) _ (V m c main_v1)) (load_row (Memref.whole cc0_stg2_0) _ (V m c main_v2))

end Cert.KernelIdeal.Out
-- ==== Proof.KernelIdeal.Results.lean ====
/-
  The kernel's three results as @main returns them: the region's arrays reshaped, in terms of @main's arguments. -/
module

public import proofs.«01_k».proof.Proof.KernelIdeal.Out

@[expose] public section

set_option maxRecDepth 16384

noncomputable section

namespace Cert.KernelIdeal.Results

open Idealize.ShloMosaic Idealize.ShloMosaic.TcCoe Idealize.SL.Sem
open Cert.KernelIdeal Cert.KernelIdeal.Gen Cert.KernelIdeal.Body

/-! ## Reshapes at an index -/

theorem cast_x (u : FVec Ideal S8x1x8320 .bf16) (y : Fin 8) (k : Fin 8320) :
    shapeCast S8x8320 u shapeCasts_S8x1x8320_S8x8320 (ix2 y k) = u (ix3 y 0 k) := by
  pointwise

theorem cast_row (u : FVec Ideal S4864 .f32) (z : Fin 4864) :
    shapeCast S1x4864 u shapeCasts_S4864_S1x4864 (ix2 0 z) = u (ix1 z) := by
  pointwise

theorem cast_y (u : FVec Ideal S8x4864 .bf16) (y : Fin 8) (z : Fin 4864) :
    shapeCast S8x1x4864 u shapeCasts_S8x4864_S8x1x4864 (ix3 y 0 z) = u (ix2 y z) := by
  pointwise

theorem cast_codes (u : FVec Ideal S8x8320 .fp8e4m3) (y : Fin 8) (k : Fin 8320) :
    shapeCast S8x1x8320 u shapeCasts_S8x8320_S8x1x8320 (ix3 y 0 k) = u (ix2 y k) := by
  pointwise

theorem cast_scales (u : FVec Ideal S8x1 .f32) (y : Fin 8) :
    shapeCast S8x1x1 u shapeCasts_S8x1_S8x1x1 (ix3 y 0 0) = u (ix2 y 0) := by
  pointwise

variable (m : (ℓ : Loc nD τ sig) → Buf (Elt Ideal) ℓ) (c : Dev nD)

/-! ## The operands as the region finds them -/

/-- The activations: the argument, reshaped. -/
theorem entry0 : V m c main_v0 = shapeCast S8x8320 (m ((c : Thread nD τ).loc main_arg0)) shapeCasts_S8x1x8320_S8x8320 := by
  unfold V V0
  simp only [hostOps0, List.flatten_cons, List.flatten_nil, List.append_nil]
  after_results
  rfl

/-- The weights' scales: the argument, reshaped. -/
theorem entry1 : V m c main_v1 = shapeCast S1x4864 (m ((c : Thread nD τ).loc main_arg2)) shapeCasts_S4864_S1x4864 := by
  unfold V V0
  simp only [hostOps0, List.flatten_cons, List.flatten_nil, List.append_nil]
  after_results
  rfl

/-- The bias: the argument, reshaped. -/
theorem entry2 : V m c main_v2 = shapeCast S1x4864 (m ((c : Thread nD τ).loc main_arg3)) shapeCasts_S4864_S1x4864 := by
  unfold V V0
  simp only [hostOps0, List.flatten_cons, List.flatten_nil, List.append_nil]
  after_results
  rfl

/-! ## The results -/

/-- The first result is the region's first array, reshaped. -/
theorem tail4 : Pipeline.afterTail₀ cfgs (dats m) 0 (V0 m) [hostOps1] c main_v4
    = shapeCast S8x1x4864 ((dats m 0 c).arrAt 3 cfg0.N) shapeCasts_S8x4864_S8x1x4864 := by
  unfold Pipeline.afterTail₀
  simp only [hostOps1, List.flatten_cons, List.flatten_nil, List.append_nil]
  after_results
  refine congrArg (fun u => shapeCast S8x1x4864 u shapeCasts_S8x4864_S8x1x4864) ?_
  exact Pipeline.withArrays_arr spec0 (by decide) c (V0 m c) (fun w => (dats m 0 c).arrAt w (cfgs 0).N) 3

/-- The second result is the region's second array, reshaped. -/
theorem tail5 : Pipeline.afterTail₀ cfgs (dats m) 0 (V0 m) [hostOps1] c main_v5
    = shapeCast S8x1x8320 ((dats m 0 c).arrAt 4 cfg0.N) shapeCasts_S8x8320_S8x1x8320 := by
  unfold Pipeline.afterTail₀
  simp only [hostOps1, List.flatten_cons, List.flatten_nil, List.append_nil]
  after_results
  refine congrArg (fun u => shapeCast S8x1x8320 u shapeCasts_S8x8320_S8x1x8320) ?_
  exact Pipeline.withArrays_arr spec0 (by decide) c (V0 m c) (fun w => (dats m 0 c).arrAt w (cfgs 0).N) 4

/-- The third result is the region's third array, reshaped. -/
theorem tail6 : Pipeline.afterTail₀ cfgs (dats m) 0 (V0 m) [hostOps1] c main_v6
    = shapeCast S8x1x1 ((dats m 0 c).arrAt 5 cfg0.N) shapeCasts_S8x1_S8x1x1 := by
  unfold Pipeline.afterTail₀
  simp only [hostOps1, List.flatten_cons, List.flatten_nil, List.append_nil]
  after_results
  refine congrArg (fun u => shapeCast S8x1x1 u shapeCasts_S8x1_S8x1x1) ?_
  exact Pipeline.withArrays_arr spec0 (by decide) c (V0 m c) (fun w => (dats m 0 c).arrAt w (cfgs 0).N) 5

/-- The second result at an index: the code of the reshaped activations. -/
theorem result5 (y : Fin 8) (k : Fin 8320) :
    (Pipeline.afterTail₀ cfgs (dats m) 0 (V0 m) [hostOps1] c main_v5 : S8x1x8320.Idx → EReal) (ix3 y 0 k) = Out.code (V m c main_v0) y k := by
  rw [tail5, Out.final4]
  exact cast_codes _ _ _

/-- The third result at an index: the scale of the reshaped activations. -/
theorem result6 (y : Fin 8) :
    (Pipeline.afterTail₀ cfgs (dats m) 0 (V0 m) [hostOps1] c main_v6 : S8x1x1.Idx → EReal) (ix3 y 0 0) = Out.scale (V m c main_v0) y := by
  rw [tail6, Out.final5]
  exact cast_scales _ _

/-- The first result at an index: the codes times the weights, scaled by both scales, plus the bias. -/
theorem result4 (y : Fin 8) (z : Fin 4864) :
    (Pipeline.afterTail₀ cfgs (dats m) 0 (V0 m) [hostOps1] c main_v4 : S8x1x4864.Idx → EReal) (ix3 y 0 z)
      = (∑ k : Fin 8320, Out.code (V m c main_v0) y k * (m ((c : Thread nD τ).loc main_arg1) (ix2 k z) : EReal)) * Out.scale (V m c main_v0) y
        * (m ((c : Thread nD τ).loc main_arg2) (ix1 z) : EReal) + (m ((c : Thread nD τ).loc main_arg3) (ix1 z) : EReal) := by
  rw [tail4, Out.final3]
  refine (cast_y _ _ _).trans ?_
  unfold Acc.weights
  rw [V_main_arg1, entry1, entry2]
  exact congrArg₂ (fun u v : EReal => (∑ k : Fin 8320, Out.code (V m c main_v0) y k * (m ((c : Thread nD τ).loc main_arg1) (ix2 k z) : EReal))
    * Out.scale (V m c main_v0) y * u + v) (cast_row _ z) (cast_row _ z)

end Cert.KernelIdeal.Results
-- ==== Proof.ReferenceIdeal.Out.lean ====
/-
  What the reference leaves in its three results, entry by entry, in terms of its arguments. -/
module

public import proofs.«01_k».proof.Proof.Gen.ReferenceIdeal.Frame
public import proofs.«01_k».proof.Proof.Exponent
public import Idealize.ShloMosaic.Lib.Pipeline.ValueKit
public import Idealize.ShloMosaic.Lib.Pointwise
public import Idealize.ShloMosaic.PureOps.Ideal.Laws

@[expose] public section

set_option maxRecDepth 16384

noncomputable section

namespace Cert.ReferenceIdeal.Out

open Idealize.ShloMosaic Idealize.ShloMosaic.TcCoe Idealize.SL.Sem
open Idealize.ShloMosaic.Pipeline (Dat)
open Cert.ReferenceIdeal Cert.ReferenceIdeal.Gen

/-! ## The body's values at an index -/

/-- The largest magnitude of row `y`. -/
def amax (x : S8x1x8320.Idx → EReal) (y : Fin 8) : EReal :=
  Finset.fold max (Ideal.ofBits .f32 4286578688#32) (fun k : Fin 8320 => FloatOps.absf (F := Ideal) (φ := .f32) (x (ix3 y 0 k))) Finset.univ

/-- The exponent of row `y`. -/
def expo (x : S8x1x8320.Idx → EReal) (y : Fin 8) : EReal :=
  if amax x y = 0 then 0 else Exponent.logExponent (amax x y * Ideal.ofBits .f32 991054117#32)

/-- The scale of row `y`. -/
def scale (x : S8x1x8320.Idx → EReal) (y : Fin 8) : EReal := Ideal.exp2 (expo x y)

/-- The code of entry `(y, k)`: the entry times the inverse scale, clipped. -/
def code (x : S8x1x8320.Idx → EReal) (y : Fin 8) (k : Fin 8320) : EReal :=
  min (Ideal.ofBits .f32 1138753536#32) (max (Ideal.ofBits .f32 3286237184#32) (x (ix3 y 0 k) * Ideal.exp2 (0 - expo x y)))

/-- The body's exponent. -/
theorem pay3_apply (x : FVec Ideal S8x1x8320 .bf16) (y : Fin 8) : (k0_pay3 (F := Ideal) x (ix3 y 0 0) : EReal) = expo x y := by
  pointwise [k0_pay3, k0_pay2]
  rfl

/-- The body's scale. -/
theorem pay4_apply (x : FVec Ideal S8x1x8320 .bf16) (y : Fin 8) : (k0_pay4 (F := Ideal) x (ix3 y 0 0) : EReal) = scale x y := by
  unfold scale; rw [← pay3_apply]
  pointwise [k0_pay4]
  rfl

/-- The body's codes. -/
theorem pay5_apply (x : FVec Ideal S8x1x8320 .bf16) (y : Fin 8) (k : Fin 8320) :
    (k0_pay5 (F := Ideal) x (ix3 y 0 k) : EReal) = code x y k := by
  unfold code; rw [← pay3_apply]
  pointwise [k0_pay5, k0_pay2]
  rfl

/-- The body's scaled product. -/
theorem pay6_apply (x : FVec Ideal S8x1x8320 .bf16) (w : FVec Ideal S8320x4864 .fp8e4m3) (y : Fin 8) (z : Fin 4864) :
    (k0_pay6 (F := Ideal) x w (ix3 y 0 z) : EReal) = (∑ k : Fin 8320, code x y k * (w (ix2 k z) : EReal)) * scale x y := by
  rw [← pay4_apply]
  simp only [← pay5_apply]
  pointwise [k0_pay6]

/-- The body's result. -/
theorem pay1_apply (p : FVec Ideal S8x1x4864 .f32) (u v : FVec Ideal S4864 .f32) (y : Fin 8) (z : Fin 4864) :
    (k0_pay1 (F := Ideal) p u v (ix3 y 0 z) : EReal) = (p (ix3 y 0 z) : EReal) * (u (ix1 z) : EReal) + (v (ix1 z) : EReal) := by
  pointwise [k0_pay1]

/-! ## The results -/

variable (m : (ℓ : Loc nD τ sig) → Buf (Elt Ideal) ℓ) (c : Dev nD)

/-- Every operand's index map is zero at the one grid point. -/
theorem idx : ∀ t : Fin grid0.N, (cfg0.win 0).index t = ![0, 0, 0] ∧ (cfg0.win 1).index t = ![0, 0] ∧ (cfg0.win 2).index t = ![0]
    ∧ (cfg0.win 3).index t = ![0] := by
  decide +kernel

/-- The block of the activations is the whole argument. -/
theorem block0 (t : Fin grid0.N) : iblk m c 0 t = V m c main_arg0 := by
  funext j
  unfold iblk
  refine congrArg (V m c main_arg0) ?_
  blk_ext [idx t]

/-- The block of the weights is the whole argument. -/
theorem block1 (t : Fin grid0.N) : iblk m c 1 t = V m c main_arg1 := by
  funext j
  unfold iblk
  refine congrArg (V m c main_arg1) ?_
  blk_ext [idx t]

/-- The block of the weights' scales is the whole argument. -/
theorem block2 (t : Fin grid0.N) : iblk m c 2 t = V m c main_arg2 := by
  funext j
  unfold iblk
  refine congrArg (V m c main_arg2) ?_
  blk_ext [idx t]

/-- The block of the bias is the whole argument. -/
theorem block3 (t : Fin grid0.N) : iblk m c 3 t = V m c main_arg3 := by
  funext j
  unfold iblk
  refine congrArg (V m c main_arg3) ?_
  blk_ext [idx t]

/-- The one grid point. -/
abbrev t0 : Fin cfg0.N := ⟨0, by decide⟩

/-- The codes. -/
theorem final5 : (dats m 0 c).arrAt 5 cfg0.N = fun i : S8x1x8320.Idx => code (m ((c : Thread nD τ).loc main_arg0)) (i 0) (i 2) := by
  refine (dats m 0 c).arrAt_eq_of_after_last 5 t0 (by decide +kernel) _ fun j => ?_
  blk_simp
  rw [after0_5]; unfold out0_5 r0_0
  rw [View.canon_unit_zero (by decide), View.ld_unit_zero (by decide), block0]
  have hj : j = ix3 (j 0) 0 (j 2) := by funext a; fin_cases a; rfl; exact Fin.fin_one_eq_zero _; rfl
  rw [hj]
  exact pay5_apply _ _ _

/-- The scales. -/
theorem final6 : (dats m 0 c).arrAt 6 cfg0.N = fun i : S8x1x1.Idx => scale (m ((c : Thread nD τ).loc main_arg0)) (i 0) := by
  refine (dats m 0 c).arrAt_eq_of_after_last 6 t0 (by decide +kernel) _ fun j => ?_
  blk_simp
  rw [after0_6]; unfold out0_6 r0_0 r0_4
  rw [View.canon_unit_zero (by decide), View.ld_unit_zero (by decide), block0]
  have hj : j = ix3 (j 0) 0 0 := by funext a; fin_cases a; rfl; exact Fin.fin_one_eq_zero _; exact Fin.fin_one_eq_zero _
  rw [hj]
  exact pay4_apply _ _

/-- The result at an index. -/
theorem result_apply (x : FVec Ideal S8x1x8320 .bf16) (w : FVec Ideal S8320x4864 .fp8e4m3) (u v : FVec Ideal S4864 .f32) (y : Fin 8) (z : Fin 4864) :
    (k0_pay1 (F := Ideal) (k0_pay6 x w) u v (ix3 y 0 z) : EReal)
      = (∑ k : Fin 8320, code x y k * (w (ix2 k z) : EReal)) * scale x y * (u (ix1 z) : EReal) + (v (ix1 z) : EReal) := by
  rw [pay1_apply, pay6_apply]

/-- The result: the codes times the weights, scaled by both scales, plus the bias. -/
theorem final4 : (dats m 0 c).arrAt 4 cfg0.N = fun i : S8x1x4864.Idx =>
    (∑ k : Fin 8320, code (m ((c : Thread nD τ).loc main_arg0)) (i 0) k * (m ((c : Thread nD τ).loc main_arg1) (ix2 k (i 2)) : EReal))
      * scale (m ((c : Thread nD τ).loc main_arg0)) (i 0) * (m ((c : Thread nD τ).loc main_arg2) (ix1 (i 2)) : EReal)
      + (m ((c : Thread nD τ).loc main_arg3) (ix1 (i 2)) : EReal) := by
  refine (dats m 0 c).arrAt_eq_of_after_last 4 t0 (by decide +kernel) _ fun j => ?_
  blk_simp
  rw [after0_4]; unfold out0_4 r0_0 r0_1 r0_2 r0_3
  rw [View.canon_unit_zero (by decide), View.ld_unit_zero (by decide), View.ld_unit_zero (by decide), View.ld_unit_zero (by decide),
    View.ld_unit_zero (by decide), block0, block1, block2, block3]
  have hj : j = ix3 (j 0) 0 (j 2) := by funext a; fin_cases a; rfl; exact Fin.fin_one_eq_zero _; rfl
  rw [hj]
  exact result_apply _ _ _ _ _ _

end Cert.ReferenceIdeal.Out
-- ==== Proof.Equation.lean ====
/-
  The value claim: from memories that agree on the arguments, the kernel and the reference end with the same three results. -/
module

public import proofs.«01_k».proof.Defs
public import proofs.«01_k».proof.Proof.Quantiser
public import proofs.«01_k».proof.Proof.KernelIdeal.Results
public import proofs.«01_k».proof.Proof.ReferenceIdeal.Out
public import Idealize.ShloMosaic.Lib.Claim

@[expose] public section

set_option maxRecDepth 16384

noncomputable section

namespace Cert.Equation

open Idealize.ShloMosaic Idealize.ShloMosaic.TcCoe Idealize.SL.Sem

section

variable (x : KernelIdeal.S8x8320.Idx → EReal) (X : ReferenceIdeal.S8x1x8320.Idx → EReal) (h : ∀ (y : Fin 8) (k : Fin 8320), x (ix2 y k) = X (ix3 y 0 k))

include h

/-- Both row maxima are the same. -/
theorem amax (y : Fin 8) : KernelIdeal.Out.amax x y = ReferenceIdeal.Out.amax X y := by
  unfold KernelIdeal.Out.amax ReferenceIdeal.Out.amax
  simp only [h]

/-- Both scales are the same. -/
theorem scale (y : Fin 8) : KernelIdeal.Out.scale x y = ReferenceIdeal.Out.scale X y := by
  have q := Quantiser.scale (ReferenceIdeal.Out.amax X y)
  rw [← amax x X h] at q
  unfold KernelIdeal.Out.scale KernelIdeal.Out.word ReferenceIdeal.Out.scale ReferenceIdeal.Out.expo
  rw [← amax x X h]
  exact q

/-- Both codes are the same. -/
theorem code (y : Fin 8) (k : Fin 8320) : KernelIdeal.Out.code x y k = ReferenceIdeal.Out.code X y k := by
  have q := Quantiser.inverse (ReferenceIdeal.Out.amax X y)
  rw [← amax x X h] at q
  unfold KernelIdeal.Out.code KernelIdeal.Out.word ReferenceIdeal.Out.code ReferenceIdeal.Out.expo
  rw [← amax x X h, h]
  exact congrArg (fun s => min (Ideal.ofBits .f32 1138753536#32) (max (Ideal.ofBits .f32 3286237184#32) (X (ix3 y 0 k) * s))) q

/-- Both results are the same, whatever the weights `w`, their scale `u` and the bias `v`. -/
theorem result (w : Fin 8320 → EReal) (u v : EReal) (y : Fin 8) :
    (∑ k : Fin 8320, ReferenceIdeal.Out.code X y k * w k) * ReferenceIdeal.Out.scale X y * u + v
      = (∑ k : Fin 8320, KernelIdeal.Out.code x y k * w k) * KernelIdeal.Out.scale x y * u + v := by
  rw [scale x X h]
  simp only [code x X h]

end

/-- The kernel's activations, as its region finds them, are its argument's. -/
theorem entry (m : (ℓ : Loc KernelIdeal.nD KernelIdeal.τ KernelIdeal.sig) → Buf (Elt Ideal) ℓ) (c : Dev KernelIdeal.nD) (y : Fin 8) (k : Fin 8320) :
    (KernelIdeal.Gen.V m c KernelIdeal.main_v0 (ix2 y k) : EReal) = m ((c : Thread KernelIdeal.nD KernelIdeal.τ).loc KernelIdeal.main_arg0) (ix3 y 0 k) := by
  rw [KernelIdeal.Results.entry0]
  exact KernelIdeal.Results.cast_x _ _ _

section

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The second results agree: the codes. -/
theorem result5 (h0 : m' ((c.tc : Thread ReferenceIdeal.nD ReferenceIdeal.τ).loc ReferenceIdeal.main_arg0)
      = m ((c.tc : Thread KernelIdeal.nD KernelIdeal.τ).loc KernelIdeal.main_arg0)) :
    (ReferenceIdeal.Gen.dats m' 0 c).arrAt 5 (ReferenceIdeal.cfgs 0).N
      = Pipeline.afterTail₀ KernelIdeal.cfgs (KernelIdeal.Body.dats m) 0 (KernelIdeal.Gen.V0 m) [KernelIdeal.Gen.hostOps1] c KernelIdeal.main_v5 := by
  refine (ReferenceIdeal.Out.final5 m' c).trans ?_
  funext j
  have hj : j = ix3 (j 0) 0 (j 2) := by funext a; fin_cases a; rfl; exact Fin.fin_one_eq_zero _; rfl
  rw [hj, h0]
  refine Eq.trans ?_ (KernelIdeal.Results.result5 m c (j 0) (j 2)).symm
  exact (code _ _ (entry m c) (j 0) (j 2)).symm

/-- The third results agree: the scales. -/
theorem result6 (h0 : m' ((c.tc : Thread ReferenceIdeal.nD ReferenceIdeal.τ).loc ReferenceIdeal.main_arg0)
      = m ((c.tc : Thread KernelIdeal.nD KernelIdeal.τ).loc KernelIdeal.main_arg0)) :
    (ReferenceIdeal.Gen.dats m' 0 c).arrAt 6 (ReferenceIdeal.cfgs 0).N
      = Pipeline.afterTail₀ KernelIdeal.cfgs (KernelIdeal.Body.dats m) 0 (KernelIdeal.Gen.V0 m) [KernelIdeal.Gen.hostOps1] c KernelIdeal.main_v6 := by
  refine (ReferenceIdeal.Out.final6 m' c).trans ?_
  funext j
  have hj : j = ix3 (j 0) 0 0 := by funext a; fin_cases a; rfl; exact Fin.fin_one_eq_zero _; exact Fin.fin_one_eq_zero _
  rw [hj, h0]
  refine Eq.trans ?_ (KernelIdeal.Results.result6 m c (j 0)).symm
  exact (scale _ _ (entry m c) (j 0)).symm

/-- The first results agree: the scaled product plus the bias. -/
theorem result4 (h0 : m' ((c.tc : Thread ReferenceIdeal.nD ReferenceIdeal.τ).loc ReferenceIdeal.main_arg0)
      = m ((c.tc : Thread KernelIdeal.nD KernelIdeal.τ).loc KernelIdeal.main_arg0))
    (h1 : m' ((c.tc : Thread ReferenceIdeal.nD ReferenceIdeal.τ).loc ReferenceIdeal.main_arg1)
      = m ((c.tc : Thread KernelIdeal.nD KernelIdeal.τ).loc KernelIdeal.main_arg1))
    (h2 : m' ((c.tc : Thread ReferenceIdeal.nD ReferenceIdeal.τ).loc ReferenceIdeal.main_arg2)
      = m ((c.tc : Thread KernelIdeal.nD KernelIdeal.τ).loc KernelIdeal.main_arg2))
    (h3 : m' ((c.tc : Thread ReferenceIdeal.nD ReferenceIdeal.τ).loc ReferenceIdeal.main_arg3)
      = m ((c.tc : Thread KernelIdeal.nD KernelIdeal.τ).loc KernelIdeal.main_arg3)) :
    (ReferenceIdeal.Gen.dats m' 0 c).arrAt 4 (ReferenceIdeal.cfgs 0).N
      = Pipeline.afterTail₀ KernelIdeal.cfgs (KernelIdeal.Body.dats m) 0 (KernelIdeal.Gen.V0 m) [KernelIdeal.Gen.hostOps1] c KernelIdeal.main_v4 := by
  refine (ReferenceIdeal.Out.final4 m' c).trans ?_
  funext j
  have hj : j = ix3 (j 0) 0 (j 2) := by funext a; fin_cases a; rfl; exact Fin.fin_one_eq_zero _; rfl
  rw [hj, h0, h1, h2, h3]
  refine Eq.trans ?_ (KernelIdeal.Results.result4 m c (j 0) (j 2)).symm
  exact result _ _ (entry m c) (fun k => m ((c.tc : Thread KernelIdeal.nD KernelIdeal.τ).loc KernelIdeal.main_arg1) (ix2 k (j 2))) _ _ (j 0)

end

/-- The kernel over the reals computes the reference: all three results, at every input. -/
theorem algebraic : Cert.algebraic_KernelIdeal_ReferenceIdeal := by
  pair_intro
  · run_from KernelIdeal.Body.run_main m g & KernelIdeal.Body.unchanged m g
  · run_from ReferenceIdeal.Gen.run_main m' g'
    · exact result4 m m' c (hagree c).1 (hagree c).2.1 (hagree c).2.2.1 (hagree c).2.2.2
    · exact result5 m m' c (hagree c).1
    · exact result6 m m' c (hagree c).1

end Cert.Equation
-- ==== Proof.lean ====
/- The proof of the certificate's claims: the kernel, its idealization and the reference each run with their arguments unchanged and every
   semaphore at zero; the idealization is the kernel's own text; and over the reals the kernel's three results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ, fun m ρ _ => Cert.ReferenceIdeal.Gen.frame m ρ,
  trivial, Cert.Equation.algebraic⟩

end Cert.Proof

end
